-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x20 : Shape := ⟨2, ![1024, 20]⟩
abbrev S100000x16 : Shape := ⟨2, ![100000, 16]⟩
abbrev S320x64 : Shape := ⟨2, ![320, 64]⟩
abbrev S64 : Shape := ⟨1, ![64]⟩
abbrev S64x100000 : Shape := ⟨2, ![64, 100000]⟩
abbrev S100000 : Shape := ⟨1, ![100000]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel

variable [Facts]

def fn {F : FTy → Type} [FloatOps F] (main_arg0 : IVec S1024x20 32) (main_arg1 : FVec F S100000x16 .f32) (main_arg2 : FVec F S320x64 .f32) (main_arg3 : FVec F S64 .f32) (main_arg4 : FVec F S64x100000 .f32) (main_arg5 : FVec F S100000 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 100000#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  main_v5
-- ==== Kernel.lean ====
abbrev S1024x20 : Shape := ⟨2, ![1024, 20]⟩
abbrev S100000x16 : Shape := ⟨2, ![100000, 16]⟩
abbrev S320x64 : Shape := ⟨2, ![320, 64]⟩
abbrev S64 : Shape := ⟨1, ![64]⟩
abbrev S64x100000 : Shape := ⟨2, ![64, 100000]⟩
abbrev S100000 : Shape := ⟨1, ![100000]⟩
abbrev S20480 : Shape := ⟨1, ![20480]⟩
abbrev S32x5x128 : Shape := ⟨3, ![32, 5, 128]⟩
abbrev S20480x16 : Shape := ⟨2, ![20480, 16]⟩
abbrev S5x128 : Shape := ⟨2, ![5, 128]⟩
abbrev S640x16 : Shape := ⟨2, ![640, 16]⟩
abbrev S_ : Shape := ⟨0, ![]⟩
abbrev S1x5x128 : Shape := ⟨3, ![1, 5, 128]⟩
abbrev S128x16 : Shape := ⟨2, ![128, 16]⟩
abbrev S1x128 : Shape := ⟨2, ![1, 128]⟩
abbrev S128 : Shape := ⟨1, ![128]⟩
abbrev S1024x320 : Shape := ⟨2, ![1024, 320]⟩
abbrev S1x64 : Shape := ⟨2, ![1, 64]⟩
abbrev S1x100000 : Shape := ⟨2, ![1, 100000]⟩
abbrev S1024x100000 : Shape := ⟨2, ![1024, 100000]⟩
abbrev S64x4096 : Shape := ⟨2, ![64, 4096]⟩
abbrev S1x4096 : Shape := ⟨2, ![1, 4096]⟩
abbrev S1024x4096 : Shape := ⟨2, ![1024, 4096]⟩
abbrev S1024x64 : Shape := ⟨2, ![1024, 64]⟩

abbrev nBuf : Table → Nat
  | .hbm => 13
  | .local .tc .vmem => 10
  | .local .scVector .vmem => 2
  | _ => 0

abbrev bufTy : (tb : Table) → Fin (nBuf tb) → BufTy
  | .hbm, ⟨0, _⟩ => ⟨S1024x20, .i32⟩
  | .hbm, ⟨1, _⟩ => ⟨S100000x16, .f32⟩
  | .hbm, ⟨2, _⟩ => ⟨S320x64, .f32⟩
  | .hbm, ⟨3, _⟩ => ⟨S64, .f32⟩
  | .hbm, ⟨4, _⟩ => ⟨S64x100000, .f32⟩
  | .hbm, ⟨5, _⟩ => ⟨S100000, .f32⟩
  | .hbm, ⟨6, _⟩ => ⟨S20480, .i32⟩
  | .hbm, ⟨7, _⟩ => ⟨S32x5x128, .i32⟩
  | .hbm, ⟨8, _⟩ => ⟨S20480x16, .f32⟩
  | .hbm, ⟨9, _⟩ => ⟨S1024x320, .f32⟩
  | .hbm, ⟨10, _⟩ => ⟨S1x64, .f32⟩
  | .hbm, ⟨11, _⟩ => ⟨S1x100000, .f32⟩
  | .hbm, ⟨12, _⟩ => ⟨S1024x100000, .f32⟩
  | .local .tc .vmem, ⟨0, _⟩ => ⟨S1024x320, .f32⟩
  | .local .tc .vmem, ⟨1, _⟩ => ⟨S320x64, .f32⟩
  | .local .tc .vmem, ⟨2, _⟩ => ⟨S1x64, .f32⟩
  | .local .tc .vmem, ⟨3, _⟩ => ⟨S64x4096, .f32⟩
  | .local .tc .vmem, ⟨4, _⟩ => ⟨S64x4096, .f32⟩
  | .local .tc .vmem, ⟨5, _⟩ => ⟨S1x4096, .f32⟩
  | .local .tc .vmem, ⟨6, _⟩ => ⟨S1x4096, .f32⟩
  | .local .tc .vmem, ⟨7, _⟩ => ⟨S1024x4096, .f32⟩
  | .local .tc .vmem, ⟨8, _⟩ => ⟨S1024x4096, .f32⟩
  | .local .tc .vmem, ⟨9, _⟩ => ⟨S1024x64, .f32⟩
  | .local .scVector .vmem, ⟨0, _⟩ => ⟨S5x128, .i32⟩
  | .local .scVector .vmem, ⟨1, _⟩ => ⟨S640x16, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_arg1_scv : Ref sig .scVector := ⟨.hbm, 1, rfl⟩
abbrev main_v1_scv : Ref sig .scVector := ⟨.hbm, 7, rfl⟩
abbrev main_v2_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg5_1 : Ref sig .tc := ⟨.vmem, 8, rfl⟩
abbrev cc1_scratch0 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_52_r0 : BitVec 32 := 0#32
  let c0_i32_53_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32_52_r1 : BitVec 32 := 0#32
  ![v2.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x320 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S320x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x20 : Shape := ⟨2, ![1024, 20]⟩
abbrev S100000x16 : Shape := ⟨2, ![100000, 16]⟩
abbrev S320x64 : Shape := ⟨2, ![320, 64]⟩
abbrev S64 : Shape := ⟨1, ![64]⟩
abbrev S64x100000 : Shape := ⟨2, ![64, 100000]⟩
abbrev S100000 : Shape := ⟨1, ![100000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x16 : Shape := ⟨3, ![1024, 20, 16]⟩
abbrev S1024x320 : Shape := ⟨2, ![1024, 320]⟩
abbrev S1024x64 : Shape := ⟨2, ![1024, 64]⟩
abbrev S1x64 : Shape := ⟨2, ![1, 64]⟩
abbrev S1024x100000 : Shape := ⟨2, ![1024, 100000]⟩
abbrev S1x100000 : Shape := ⟨2, ![1, 100000]⟩

abbrev nBuf : Space → Nat
  | .hbm => 41
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S100000x16, .f32⟩
  | .hbm, ⟨2, _⟩ => ⟨S320x64, .f32⟩
  | .hbm, ⟨3, _⟩ => ⟨S64, .f32⟩
  | .hbm, ⟨4, _⟩ => ⟨S64x100000, .f32⟩
  | .hbm, ⟨5, _⟩ => ⟨S100000, .f32⟩
  | .hbm, ⟨6, _⟩ => ⟨S_, .i32⟩
  | .hbm, ⟨7, _⟩ => ⟨S1024x20, .i32⟩
  | .hbm, ⟨8, _⟩ => ⟨S1024x20, .i1⟩
  | .hbm, ⟨9, _⟩ => ⟨S_, .i32⟩
  | .hbm, ⟨10, _⟩ => ⟨S1024x20, .i32⟩
  | .hbm, ⟨11, _⟩ => ⟨S1024x20, .i32⟩
  | .hbm, ⟨12, _⟩ => ⟨S1024x20, .i32⟩
  | .hbm, ⟨13, _⟩ => ⟨S1024x20x1, .i32⟩
  | .hbm, ⟨14, _⟩ => ⟨S1, .i32⟩
  | .hbm, ⟨15, _⟩ => ⟨S_, .i32⟩
  | .hbm, ⟨16, _⟩ => ⟨S1024x20x1, .i32⟩
  | .hbm, ⟨17, _⟩ => ⟨S1024x20x1, .i1⟩
  | .hbm, ⟨18, _⟩ => ⟨S1x1x1, .i32⟩
  | .hbm, ⟨19, _⟩ => ⟨S1024x20x1, .i32⟩
  | .hbm, ⟨20, _⟩ => ⟨S1024x20x1, .i1⟩
  | .hbm, ⟨21, _⟩ => ⟨S1024x20x1, .i1⟩
  | .hbm, ⟨22, _⟩ => ⟨S_, .i1⟩
  | .hbm, ⟨23, _⟩ => ⟨S1024x20, .i1⟩
  | .hbm, ⟨24, _⟩ => ⟨S1024x20x16, .f32⟩
  | .hbm, ⟨25, _⟩ => ⟨S1024x20x16, .i1⟩
  | .hbm, ⟨26, _⟩ => ⟨S_, .f32⟩
  | .hbm, ⟨27, _⟩ => ⟨S1024x20x16, .f32⟩
  | .hbm, ⟨28, _⟩ => ⟨S1024x20x16, .f32⟩
  | .hbm, ⟨29, _⟩ => ⟨S1024x320, .f32⟩
  | .hbm, ⟨30, _⟩ => ⟨S1024x64, .f32⟩
  | .hbm, ⟨31, _⟩ => ⟨S1x64, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x64, .f32⟩
  | .hbm, ⟨37, _⟩ => ⟨S1024x100000, .f32⟩
  | .hbm, ⟨38, _⟩ => ⟨S1x100000, .f32⟩
  | .hbm, ⟨39, _⟩ => ⟨S1024x100000, .f32⟩
  | .hbm, ⟨40, _⟩ => ⟨S1024x100000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩

abbrev nD : Nat := 1
abbrev τ : Topo := Topo.v7x

variable {F : FTy → Type} [FloatOps F]
-- ==== Proof.GatherBatch.lean ====
/-
  SEVERAL INDIRECT GATHERS OUTSTANDING ON ONE SEMAPHORE. The tile issues five row gathers back to back, all completing on one DMA
  semaphore, and waits only afterwards. Every row transfer of every gather is one member of a single counted batch
  (`Transfers.Batch`): this file states the rule that issues one gather as the next `o` members of a batch, what each of its
  rows delivers (`RowLanded`), and that the rows of one gather together are the gathered window (`rowsLanded_join`).
-/
module

public import Idealize.ShloMosaic.Lib.SparseCore.Stream
public import Idealize.ShloMosaic.Lib.Batch

@[expose] public section

noncomputable section

namespace Cert.GatherBatch

open Idealize.ShloMosaic Idealize.ShloMosaic.SparseCore Idealize.ShloMosaic.Transfers
open Idealize.SL
open Idealize.SL.BI (sProp Storable bigSep bigSep_map bigSep_union)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## The next `o` issue rights of a batch -/

/-- Member `j + i` of a batch of `n`, for `i` among the next `o`. -/
def member {n j o : ℕ} (h : j + o ≤ n) (i : Fin o) : Fin n := ⟨j + i.val, Nat.lt_of_lt_of_le (Nat.add_lt_add_left i.isLt j) h⟩

/-- The members from `j` on are the next `o` and those from `j + o` on. -/
theorem bigSep_pending_add {M : Type} [URA M] {n j o : ℕ} (h : j + o ≤ n) (Φ : Fin n → sProp M) :
    bigSep (pending j) Φ = iprop((bigSep Finset.univ fun i : Fin o => Φ (member h i)) ∗ bigSep (pending (j + o)) Φ) := by
  have hinj : Function.Injective (member (n := n) (j := j) (o := o) h) := fun i i' e => by
    have := congrArg Fin.val e; simp only [member] at this; exact Fin.ext (by omega)
  have hs : (pending j : Finset (Fin n)) = (Finset.univ.map ⟨member h, hinj⟩) ∪ pending (j + o) := by
    ext t
    simp only [pending, Finset.mem_filter, Finset.mem_univ, true_and, Finset.mem_union, Finset.mem_map, Function.Embedding.coeFn_mk]
    constructor
    · intro ht
      by_cases hlt : t.val < j + o
      · exact .inl ⟨⟨t.val - j, by omega⟩, Fin.ext (by simp only [member]; omega)⟩
      · exact .inr (by omega)
    · rintro (⟨i, rfl⟩ | ht)
      · simp [member]
      · omega
  have hd : Disjoint (Finset.univ.map ⟨member h, hinj⟩) (pending (j + o) : Finset (Fin n)) := by
    refine Finset.disjoint_left.mpr fun t ht ht' => ?_
    simp only [pending, Finset.mem_filter, Finset.mem_univ, true_and, Finset.mem_map, Function.Embedding.coeFn_mk] at ht ht'
    obtain ⟨i, rfl⟩ := ht
    have := i.isLt
    simp only [member] at ht'; omega
  rw [hs, bigSep_union hd, bigSep_map]; rfl

/-! ## What one row of a gather delivers -/

section Row

variable (src : Memref sig c.2.kind sp s₀ e) (dst : Memref sig c.2.kind .vmem s e) (hg : s₀.Gathers a s)
variable (offs : Memref sig c.2.kind .vmem si .i32) (hn : si.numel = s.size hg.axis')
variable (q qo : PosShare TreeShare) (fs : Buf (Elt F) (src.view.loc c)) (fd : Buf (Elt F) (dst.view.loc c)) (fo : Buf (Elt F) (offs.view.loc c))
variable (ho : 0 < s.size hg.axis') (r : Fin (s.size hg.axis') → Fin (s₀.size hg.axis))

/-- Row `i` landed: the destination's row `i` written with the source's row `r i`, the list's entry `i` and one piece of the
    source's share back. -/
def RowLanded (i : Fin (s.size hg.axis')) : sProp 𝕄 :=
  iprop(((dst.view.loc c ↦[(dst.view.slice (s.rowRect hg.axis' i)).set]{fullShare}
            ((dst.view.slice (s.rowRect hg.axis' i)).write (Elt F) fd (fun x : (s.rowShape hg.axis').Idx => src.view.read (Elt F) fs (hg.rowIdx (r i) x)) Finset.univ))
        ∗ (offs.view.loc c ↦[{offs.view.emb (si.rowMajor.symm (i.cast hn.symm))}]{qo} fo))
      ∗ (src.view.loc c ↦[src.view.set]{pieceOf q _ ho i} fs))

instance rowLanded_storable (i : Fin (s.size hg.axis')) :
    Storable (upEmb : UEmb _ 𝕄) (RowLanded (Ix := Ix) (Name := Name) (U := U) (Lvl := Lvl) c src dst hg offs hn q qo fs fd fo ho r i) := by
  unfold RowLanded; infer_instance

/-- ALL ROWS LANDED are the destination written with the gather's payload, the list's and the source's shares whole again. -/
theorem rowsLanded_join :
    bigSep Finset.univ (fun i => RowLanded (Ix := Ix) (Name := Name) (U := U) (Lvl := Lvl) c src dst hg offs hn q qo fs fd fo ho r i)
      ⊢ (iprop((dst.view.loc c ↦[dst.view.set]{fullShare}
            (dst.view.write (Elt F) fd (gatherPayload hg (src.view.read (Elt F) fs) r) Finset.univ))
        ∗ (offs.view.loc c ↦[offs.view.set]{qo} fo) ∗ (src.view.loc c ↦[src.view.set]{q} fs)) : sProp 𝕄) := by
  have hen : Function.Bijective fun i : Fin (s.size hg.axis') => si.rowMajor.symm (i.cast hn.symm) :=
    si.rowMajor.symm.bijective.comp (finCongr hn.symm).bijective
  have hW : ∀ i x, src.view.read (Elt F) fs (hg.rowIdx (r i) x)
      = gatherPayload hg (src.view.read (Elt F) fs) r ((s.rowRect hg.axis' i).emb x) := fun i x => by
    unfold gatherPayload; rw [Shape.Gathers.idx_rowRect_emb]
  unfold RowLanded
  iintro H
  ihave H1 := Transfers.bigSep_sep_out _ _ _ $$ H
  icases H1 with ⟨H2, Hsrc⟩
  ihave H3 := Transfers.bigSep_sep_out _ _ _ $$ H2
  icases H3 with ⟨Hrows, Hlist⟩
  isplitl [Hrows]
  · iapply (pointsTo_rows_write (Ix := Ix) (Name := Name) (U := U) (Lvl := Lvl) c dst.view hg.axis' fd (fun i x => src.view.read (Elt F) fs (hg.rowIdx (r i) x))
      (gatherPayload hg (src.view.read (Elt F) fs) r) hW) $$ Hrows
  isplitl [Hlist]
  · iapply (Entails.of_eq (pointsTo_entries c offs.view _ hen qo fo).symm) $$ Hlist
  · iapply (Entails.of_eq (pointsTo_piecesOf (src.view.set) fs ho q).symm) $$ Hsrc

end Row

/-! ## The issue -/

/-- AN INDIRECT GATHER ISSUED INTO A BATCH: a thread that holds a share of the source, the destination outright, a share of the
    list whose words all name rows (`hin`), and a batch of which the first `j` members are issued, issues the gather and goes on
    with the batch at `j' = j + o` members issued, `o` the number of rows, provided member `j + i` was declared to deliver what row `i`
    delivers (`hD`) and each row credits `N`. -/
theorem wp_gatherIntoBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n j j' u o : ℕ} {D : Fin n → sProp 𝕄}
    (ι : Ix) (N : ℕ) (hos : s.size hg.axis' = o) (hN : ∀ i, (dst.slice (s.rowRect hg.axis' i) (s.stride_rowRect hg.axis' i)).view.dmaCredit = N)
    (ho : 0 < s.size hg.axis') (hin : ∀ x, (offs.view.read (Elt F) fo x).toNat < s₀.size hg.axis)
    (hj : j + o ≤ n) (hj' : j' = j + o) (hu : u ≤ j * N)
    (hD : ∀ i (t : Fin n), t.val = j + i.val → RowLanded (Ix := Ix) (Name := Name) (U := U) (Lvl := Lvl) c src dst hg offs hn q qo fs fd fo ho
      (rows (offs.view.read (Elt F) fo) hn hin) i ⊢ D t) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D j' u -∗ wp frame (wpE defs 𝒱 c bd) Set.univ (k ⟨⟩) Q)
          -∗ wp frame (wpE defs 𝒱 c bd) Set.univ (enqueueIndirectGather hp src dst hg offs hn sem hsrc he hsp hr >>= k) Q) := by
  subst hos; subst hj'
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry := si.rowMajor.symm.bijective.comp (finCongr hn.symm).bijective
  have hsum : ∑ i, (rd i).dst.view.dmaCredit = s.size hg.axis' * N := by
    rw [Finset.sum_congr rfl fun i _ => show (rd i).dst.view.dmaCredit = N from hN i, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (bigSep_pending_add hj fun t => count EC (γ t) 0)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i, iprop(inv κ (batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ (member hj i)) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd (fun x : (s.rowShape hg.axis').Idx => src.view.read (Elt F) fs (hg.rowIdx (r i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hc : (rd i).dst.view.amount (SemLoc.dma sem) = N := hN i
        rw [hc]
        iapply (batch_creditUpdate EC (member hj i) (hD i _ rfl))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.GatherBatch

end
-- ==== Proof.Base.lean ====
/-
  THE PROGRAM AS ITS PROOF SEES IT: the SparseCore configuration, the ghost state (the launch's handshakes, the TensorCore
  region's staging cells, the transfers' counters), the memrefs of one tile's task, and the array of gathered rows that the
  SparseCore call leaves.
-/
module

public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton

@[expose] public section

noncomputable section

namespace Cert.EmbedMlp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program below its SparseCore calls: the kernels' own and the one TensorCore region's. -/
abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are distinct and unscoped, and no tile buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

/-- The handshakes' rounds library. -/
abbrev EH : Emb UH (MT nD τ sig (HIx 1) (Elt F) ℕ UU ℕ) := embL
/-- The TensorCore region's staging cells' rounds library. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

local notation "𝕄" => MT nD τ sig (HIx 1) (Elt F) ℕ UU ℕ

/-- The transfers' counters. -/
abbrev EC : UEmb Counters (MT nD τ sig (HIx 1) (Elt F) ℕ UU ℕ) := countersEmb

/-! ## The buffers and the memrefs of a task -/

/-- The table, the index rows and the gathered rows, on device `d`. -/
abbrev tabLoc (d : Dev nD) : Loc nD τ sig := (SparseCore.T d).loc main_arg1
abbrev idxLoc (d : Dev nD) : Loc nD τ sig := (SparseCore.T d).loc main_v1
abbrev rowLoc (d : Dev nD) : Loc nD τ sig := (SparseCore.T d).loc main_v2

abbrev tabM : Memref sig .scVector .hbm S100000x16 .f32 := Memref.whole main_arg1_scv
abbrev idxM : Memref sig .scVector .hbm S32x5x128 .i32 := Memref.whole main_v1_scv
abbrev rowM : Memref sig .scVector .hbm S20480x16 .f32 := Memref.whole main_v2_scv
abbrev lstM : Memref sig .scVector .vmem S5x128 .i32 := Memref.whole cc0_scratch0
abbrev bufM : Memref sig .scVector .vmem S640x16 .f32 := Memref.whole cc0_scratch1

abbrev cV (L : grid0.Coords) : Fin τ.nSC := (L 0).castLE hcore0
abbrev jV (L : grid0.Coords) : Fin τ.nSub := (L 1).castLE hsub0
/-- The thread of the task at `L`. -/
abbrev VT (d : Dev nD) (L : grid0.Coords) : Thread nD τ := V d (cV L) (jV L)

/-- The task's index rows, squeezed, and its block of the gathered rows, as the body slices them. -/
abbrev myIdx (L : grid0.Coords) : Memref sig .scVector .hbm S5x128 .i32 :=
  (idxM.slice (Rect.unit (s := S32x5x128) (k0_off1 L) S1x5x128.size (k0_off1_inb L)) (fun _ => rfl)).squeeze S5x128 squeezes_S1x5x128_S5x128
abbrev myRows (L : grid0.Coords) : Memref sig .scVector .hbm S640x16 .f32 :=
  rowM.slice (Rect.unit (s := S20480x16) (k0_off2 L) S640x16.size (k0_off2_inb L)) (fun _ => rfl)
/-- The table as the body slices it: from its origin, whole. -/
abbrev tabS : Memref sig .scVector .hbm S100000x16 .f32 :=
  tabM.slice (Rect.unit (s := S100000x16) ![0, 0] S100000x16.size inb_S100000x16_S100000x16_0_0) (fun _ => rfl)

theorem win_inb (k : Fin 5) : ∀ a, (![128 * k.val, 0] : Fin 2 → ℕ) a + S128x16.size a ≤ S640x16.size a := by
  have := k.isLt
  intro a; fin_cases a
  · show 128 * k.val + 128 ≤ 640; omega
  · show 0 + 16 ≤ 16; omega
theorem lst_inb (k : Fin 5) : ∀ a, (![k.val, 0] : Fin 2 → ℕ) a + S1x128.size a ≤ S5x128.size a := by
  have := k.isLt
  intro a; fin_cases a
  · show k.val + 1 ≤ 5; omega
  · show 0 + 128 ≤ 128; omega
/-- Gather `k`'s window of the row buffer, and its list: row `k` of the index buffer. -/
abbrev win (k : Fin 5) : Memref sig .scVector .vmem S128x16 .f32 :=
  bufM.slice (Rect.unit (s := S640x16) ![128 * k.val, 0] S128x16.size (win_inb k)) (fun _ => rfl)
abbrev lst (k : Fin 5) : Memref sig .scVector .vmem S128 .i32 :=
  (lstM.slice (Rect.unit (s := S5x128) ![k.val, 0] S1x128.size (lst_inb k)) (fun _ => rfl)).squeeze S128 squeezes_S1x128_S128

/-- The semaphore of the gathers, and those of the two local copies. -/
abbrev gsem : DmaSem sig := cc0_scratch2.sem
abbrev isem : DmaSem sig := cc0_scoped0.sem
abbrev osem : DmaSem sig := cc0_scoped1.sem

/-! ## The gathered rows -/

/-- The row of the table that an index word names. -/
def rowAt (w : BitVec 32) : Fin 100000 := ⟨w.toNat % 100000, Nat.mod_lt _ (by decide)⟩

theorem rowAt_val {w : BitVec 32} (h : w.toNat < 100000) : (rowAt w).val = w.toNat := Nat.mod_eq_of_lt h

/-- The table's element at row `a`, lane `l`. -/
def tabIx (a : Fin 100000) (l : Fin 16) : S100000x16.Idx := fun | 0 => a | 1 => l
/-- Word `r` of a task's 640 index words: lane `r % 128` of row `r / 128`. -/
def lstIx (r : ℕ) (h : r < 640) : S5x128.Idx := fun
  | 0 => ⟨r / 128, by show _ < 5; omega⟩
  | 1 => ⟨r % 128, by show _ < 128; omega⟩
/-- Word `r` of the 20480 index words: task `r / 640`'s word `r % 640`. -/
def idxIx (r : ℕ) (h : r < 20480) : S32x5x128.Idx := fun
  | 0 => ⟨r / 640, by show _ < 32; omega⟩
  | 1 => ⟨r % 640 / 128, by show _ < 5; omega⟩
  | 2 => ⟨r % 128, by show _ < 128; omega⟩

/-- THE GATHERED ROWS: row `r` is the table's row that word `r` of the index rows names. -/
def gathered (d : Dev nD) (iv : Buf (Elt F) (idxLoc d)) (tab : Buf (Elt F) (tabLoc d)) : Buf (Elt F) (rowLoc d) := fun (y : S20480x16.Idx) =>
  tab (tabIx (rowAt (iv (idxIx (y 0).val (y 0).isLt))) (y 1))

end Cert.EmbedMlp

end
-- ==== Proof.Gathers.lean ====
/-
  THE FIVE GATHERS OF A TASK as one batch of 640 row transfers on the gathers' semaphore: what each row delivers, gather `k`'s
  issue as members `128 k …` of the batch, a wait, and what the deliveries are together: the row buffer filled with the
  table's rows.
-/
module

public import proofs.«01_k».proof.Proof.Base

@[expose] public section

noncomputable section

namespace Cert.EmbedMlp

open Cert.KernelIdeal Cert.KernelIdeal.Gen

open Idealize.ShloMosaic
open Idealize.ShloMosaic.SparseCore (S V T gatherPayload rows enqueueIndirectGather waitIndirectGather waitIndirectGather_bind)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers
open Cert.GatherBatch

variable {F : FTy → Type}

local notation "𝕄" => MT nD τ sig (HIx 1) (Elt F) ℕ UU ℕ

/-! ## The windows and the lists partition their buffers -/

theorem set_win (k : Fin 5) : (win k).view.set = (Rect.unit (s := S640x16) ![128 * k.val, 0] S128x16.size (win_inb k)).set := by
  show ((View.whole (cc0_scratch1 : Ref sig .scVector)).slice _).set = _
  rw [View.set_slice]; exact Finset.map_refl
theorem set_lst (k : Fin 5) : (lst k).view.set = (Rect.unit (s := S5x128) ![k.val, 0] S1x128.size (lst_inb k)).set := by
  show (((View.whole (cc0_scratch0 : Ref sig .scVector)).slice (Rect.unit (s := S5x128) ![k.val, 0] S1x128.size (lst_inb k))).reshape
    S128 squeezes_S1x128_S128.numel_eq).set = _
  rw [View.set_reshape, View.set_slice]; exact Finset.map_refl

theorem win_disjoint : ∀ k ∈ (Finset.univ : Finset (Fin 5)), ∀ k' ∈ (Finset.univ : Finset (Fin 5)), k ≠ k' → Disjoint (win k).view.set (win k').view.set := by
  intro k _ k' _ h
  rw [set_win, set_win]
  have : k.val ≠ k'.val := fun e => h (Fin.ext e)
  refine Rect.disjoint_of_separated _ _ 0 ?_
  show (128 = 0 ∨ 128 * k.val + 1 * (128 - 1) < 128 * k'.val) ∨ (128 = 0 ∨ 128 * k'.val + 1 * (128 - 1) < 128 * k.val)
  omega
theorem lst_disjoint : ∀ k ∈ (Finset.univ : Finset (Fin 5)), ∀ k' ∈ (Finset.univ : Finset (Fin 5)), k ≠ k' → Disjoint (lst k).view.set (lst k').view.set := by
  intro k _ k' _ h
  rw [set_lst, set_lst]
  have : k.val ≠ k'.val := fun e => h (Fin.ext e)
  refine Rect.disjoint_of_separated _ _ 0 ?_
  show (1 = 0 ∨ k.val + 1 * (1 - 1) < k'.val) ∨ (1 = 0 ∨ k'.val + 1 * (1 - 1) < k.val)
  omega

theorem win_cover : Finset.biUnion (β := S640x16.Idx) Finset.univ (fun k : Fin 5 => (win k).view.set) = Finset.univ := by
  refine Finset.eq_univ_of_forall fun (x : S640x16.Idx) => Finset.mem_biUnion.mpr ?_
  have h0 : (x 0).val < 640 := (x 0).isLt
  have h1 : (x 1).val < 16 := (x 1).isLt
  refine ⟨⟨(x 0).val / 128, by omega⟩, Finset.mem_univ _, ?_⟩
  rw [set_win, Rect.mem_set_unit]
  intro a; fin_cases a
  · show 128 * ((x 0).val / 128) ≤ (x 0).val ∧ (x 0).val < 128 * ((x 0).val / 128) + 128; omega
  · show 0 ≤ (x 1).val ∧ (x 1).val < 0 + 16; omega
theorem lst_cover : Finset.biUnion (β := S5x128.Idx) Finset.univ (fun k : Fin 5 => (lst k).view.set) = Finset.univ := by
  refine Finset.eq_univ_of_forall fun (x : S5x128.Idx) => Finset.mem_biUnion.mpr ?_
  have h0 : (x 0).val < 5 := (x 0).isLt
  have h1 : (x 1).val < 128 := (x 1).isLt
  refine ⟨⟨(x 0).val, by omega⟩, Finset.mem_univ _, ?_⟩
  rw [set_lst, Rect.mem_set_unit]
  intro a; fin_cases a
  · show (x 0).val ≤ (x 0).val ∧ (x 0).val < (x 0).val + 1; omega
  · show 0 ≤ (x 1).val ∧ (x 1).val < 0 + 128; omega

variable (d : Dev nD) (L : grid0.Coords)
variable (tab : Buf (Elt F) (tabLoc d)) (q : PosShare TreeShare)
variable (t0 : Buf (Elt F) (bufM.view.loc (VT d L))) (fo : Buf (Elt F) (lstM.view.loc (VT d L)))

/-- The row buffer held whole is its five windows held, and the index buffer its five lists. -/
theorem buf_wins (f : Buf (Elt F) (bufM.view.loc (VT d L))) :
    (bufM.view.loc (VT d L) ↦[bufM.view.set]{fullShare} f : sProp 𝕄)
      = bigSep Finset.univ fun k : Fin 5 => (win k).view.loc (VT d L) ↦[(win k).view.set]{fullShare} f := by
  rw [View.set_whole]
  exact (congrArg (fun I => (bufM.view.loc (VT d L) ↦[I]{fullShare} f : sProp 𝕄)) win_cover.symm).trans
    (pointsTo_biUnion Finset.univ (ℓ := bufM.view.loc (VT d L)) (fun k => (win k).view.set) win_disjoint)
theorem lst_rows (f : Buf (Elt F) (lstM.view.loc (VT d L))) :
    (lstM.view.loc (VT d L) ↦[lstM.view.set]{fullShare} f : sProp 𝕄)
      = bigSep Finset.univ fun k : Fin 5 => (lst k).view.loc (VT d L) ↦[(lst k).view.set]{fullShare} f := by
  rw [View.set_whole]
  exact (congrArg (fun I => (lstM.view.loc (VT d L) ↦[I]{fullShare} f : sProp 𝕄)) lst_cover.symm).trans
    (pointsTo_biUnion Finset.univ (ℓ := lstM.view.loc (VT d L)) (fun k => (lst k).view.set) lst_disjoint)

/-! ## The batch -/

/-- Every word of the index buffer names a row of the table. -/
def InRange : Prop := ∀ y : S5x128.Idx, ((fo : S5x128.Idx → BitVec 32) y).toNat < 100000

theorem InRange.list {fo : Buf (Elt F) (lstM.view.loc (VT d L))} (h : InRange d L fo) (k : Fin 5) :
    ∀ x, ((lst k).view.read (Elt F) fo x).toNat < S100000x16.size gathers_S100000x16_S128x16.axis := by
  intro x
  show ((lst k).view.read (Elt F) fo x).toNat < 100000
  rw [View.read_apply]
  exact h _

variable (hin : InRange d L fo)

theorem five_pos : 0 < 5 := by decide
theorem rows_pos : 0 < S128x16.size gathers_S100000x16_S128x16.axis' := by decide

/-- What row `i` of gather `k` delivers. -/
def rowOut (k : Fin 5) (i : Fin 128) : sProp 𝕄 :=
  RowLanded (VT d L) tabS (win k) gathers_S100000x16_S128x16 (lst k) rfl (pieceOf q 5 five_pos k) fullShare tab t0 fo rows_pos
    (rows ((lst k).view.read (Elt F) fo) rfl (hin.list d L k)) i

/-- What the batch's members deliver: member `128 k + i` is row `i` of gather `k`. -/
def deliver (t : Fin 640) : sProp 𝕄 :=
  rowOut d L tab q t0 fo hin ((finProdFinEquiv (m := 5) (n := 128)).symm t).1 ((finProdFinEquiv (m := 5) (n := 128)).symm t).2

instance deliver_storable (t : Fin 640) : Storable (upEmb : UEmb _ 𝕄) (deliver d L tab q t0 fo hin t) := by
  unfold deliver rowOut
  exact rowLanded_storable (VT d L) _ _ _ _ _ _ _ _ _ _ _ _ _

theorem deliver_member (k : Fin 5) (i : Fin 128) (t : Fin 640) (h : t.val = 128 * k.val + i.val) :
    deliver d L tab q t0 fo hin t = rowOut d L tab q t0 fo hin k i := by
  have e : (finProdFinEquiv (m := 5) (n := 128)).symm t = (k, i) := by
    rw [Equiv.symm_apply_eq]
    apply Fin.ext
    rw [finProdFinEquiv_apply_val, h]
    show 128 * k.val + i.val = i.val + 128 * k.val
    omega
  unfold deliver; rw [e]

/-- A row transfer credits 512 units (sixteen words of 32 bits), a window's wait takes 128 of them. -/
theorem row_credit (k : Fin 5) (i : Fin (S128x16.size gathers_S100000x16_S128x16.axis')) :
    ((win k).slice (S128x16.rowRect gathers_S100000x16_S128x16.axis' i) (S128x16.stride_rowRect gathers_S100000x16_S128x16.axis' i)).view.dmaCredit = 512 := rfl
theorem win_credit (k : Fin 5) : (win k).view.dmaCredit = 128 * 512 := rfl

variable [FloatOps F]

/-- Gather `k` issued: the batch's members up to `128 (k + 1)`. -/
theorem wp_gather {α : Type} {Q : α → sProp 𝕄} (k : Fin 5) (j j' : ℕ) (hj : j = 128 * k.val) (hj' : j' = 128 * k.val + 128)
    {hp : (VT d L).2.kind = .scVector} {hsrc : tabS.view.WordExact} {he : EltTy.f32.bits = 32} {hsp : Space.hbm = .hbm ∨ Space.hbm = .shared}
    {hr : S100000x16.StreamRows 0} {hn : S128.numel = S128x16.size gathers_S100000x16_S128x16.axis'}
    (kont : PUnit → Prog (TpuEff nD τ sig (Elt F) Λ₀ (VT d L).2) α) :
    iprop((tabS.view.loc (VT d L) ↦[tabS.view.set]{pieceOf q 5 five_pos k} tab) ∗ ((win k).view.loc (VT d L) ↦[(win k).view.set]{fullShare} t0)
        ∗ ((lst k).view.loc (VT d L) ↦[(lst k).view.set]{fullShare} fo)
        ∗ Batch EC (VT d L) (.dma gsem) (default : HIx 1) 512 (deliver d L tab q t0 fo hin) j 0)
      ⊢ iprop((Batch EC (VT d L) (.dma gsem) (default : HIx 1) 512 (deliver d L tab q t0 fo hin) j' 0
              -∗ wp frame (wpE (defs₀ (F := F)) 𝒱₀ (VT d L) none) Set.univ (kont ⟨⟩) Q)
          -∗ wp frame (wpE (defs₀ (F := F)) 𝒱₀ (VT d L) none) Set.univ
              (enqueueIndirectGather hp tabS (win k) gathers_S100000x16_S128x16 (lst k) hn gsem hsrc he hsp hr >>= kont) Q) := by
  subst hj; subst hj'
  have hk : 128 * k.val + 128 ≤ 640 := by have := k.isLt; omega
  exact wp_gatherIntoBatch (EC (F := F)) 𝒱₀ (VT d L) none (o := 128) (default : HIx 1) 512 rfl (row_credit k) rows_pos (hin.list d L k) hk rfl (Nat.zero_le _)
    fun i t h => Entails.of_eq (deliver_member d L tab q t0 fo hin k i t h).symm

/-- A wait for one window's worth of units, by a task that may owe. -/
theorem wp_drain {α : Type} {Q : α → sProp 𝕄} (k : Fin 5) (u u' : ℕ) (hu : u = 65536 * k.val) (hu' : u' = 65536 * k.val + 65536)
    (DD : Fin 640 → sProp 𝕄) {hsrc : tabS.view.WordExact} {hdst : (win k).view.WordExact}
    (kont : PUnit → Prog (TpuEff nD τ sig (Elt F) Λ₀ (VT d L).2) α) {O : CellTallies nD τ sig (HIx 1)} {W : Waits sig (HIx 1)} :
    iprop(Batch EC (VT d L) (.dma gsem) (default : HIx 1) 512 DD 640 u ∗ owes (VT d L) O W ∗ MayWait (VT d L) (.dma gsem) (default : HIx 1) O)
      ⊢ iprop((iprop(Batch EC (VT d L) (.dma gsem) (default : HIx 1) 512 DD 640 u' ∗ owes (VT d L) O (insert (SemLoc.dma gsem, (default : HIx 1)) W))
              -∗ wp frame (wpE (defs₀ (F := F)) 𝒱₀ (VT d L) none) Set.univ (kont ⟨⟩) Q)
          -∗ wp frame (wpE (defs₀ (F := F)) 𝒱₀ (VT d L) none) Set.univ (waitIndirectGather gsem tabS (win k) hsrc hdst >>= kont) Q) := by
  subst hu; subst hu'
  exact wp_waitBatchMulO (EC (F := F)) 𝒱₀ (VT d L) none (default : HIx 1) 128 (win_credit k) (by have := k.isLt; omega)

/-! ## The deliveries together -/

/-- The row buffer after the gathers: row `r` is the table's row named by word `(r / 128, r % 128)` of the index buffer. -/
def filled : Buf (Elt F) (bufM.view.loc (VT d L)) := fun (y : S640x16.Idx) =>
  tab (tabIx (rowAt ((fo : S5x128.Idx → BitVec 32) (lstIx (y 0).val (y 0).isLt))) (y 1))

omit [FloatOps F] in
/-- Where the list's entry for row `i` sits in its row of the index buffer: at lane `i`. -/
theorem entry_lane : ∀ i : Fin 128,
    ((Shape.reshapeEquiv (s := S1x128) (s' := S128) squeezes_S1x128_S128.numel_eq) (S128.rowMajor.symm i) 0).val = 0
      ∧ ((Shape.reshapeEquiv (s := S1x128) (s' := S128) squeezes_S1x128_S128.numel_eq) (S128.rowMajor.symm i) 1).val = i.val := by
  decide +kernel

omit [FloatOps F] in
/-- On its window, a gather leaves the filled row buffer. -/
theorem win_filled (k : Fin 5) : ∀ y ∈ (win k).view.set,
    (win k).view.write (Elt F) t0 (gatherPayload gathers_S100000x16_S128x16 (tabS.view.read (Elt F) tab)
      (rows ((lst k).view.read (Elt F) fo) rfl (hin.list d L k))) Finset.univ y = filled d L tab fo y := by
  intro y hy
  obtain ⟨x, -, rfl⟩ := Finset.mem_map.mp hy
  have hk := k.isLt
  have hx0 : (x 0).val < 128 := (x 0).isLt
  obtain ⟨e0, e1⟩ := entry_lane (x 0)
  rw [View.write_emb_of_mem _ _ (Finset.mem_univ x)]
  refine (cast_eq _ _).trans ?_
  unfold gatherPayload
  rw [View.read_apply]
  refine (cast_eq _ _).trans ?_
  unfold filled
  refine congrArg tab (funext fun a => Fin.ext ?_)
  match a with
  | ⟨0, _⟩ =>
    show 0 + 1 * ((fo : S5x128.Idx → BitVec 32) ((lst k).view.emb (S128.rowMajor.symm (x 0)))).toNat = _
    have e : (lst k).view.emb (S128.rowMajor.symm (x 0)) = lstIx (128 * k.val + 1 * (x 0).val) (by omega) := by
      funext b; apply Fin.ext
      match b with
      | ⟨0, _⟩ =>
        show k.val + 1 * ((Shape.reshapeEquiv (s := S1x128) (s' := S128) squeezes_S1x128_S128.numel_eq) (S128.rowMajor.symm (x 0)) 0).val
          = (128 * k.val + 1 * (x 0).val) / 128
        rw [e0]; omega
      | ⟨1, _⟩ =>
        show 0 + 1 * ((Shape.reshapeEquiv (s := S1x128) (s' := S128) squeezes_S1x128_S128.numel_eq) (S128.rowMajor.symm (x 0)) 1).val
          = (128 * k.val + 1 * (x 0).val) % 128
        rw [e1]; omega
    rw [e, Nat.zero_add, Nat.one_mul]
    exact (rowAt_val (hin _)).symm
  | ⟨1, _⟩ =>
    show 0 + 1 * (x 1).val = 0 + 1 * (x 1).val
    rfl

/-- ALL 640 ROWS DELIVERED are the row buffer filled, the index buffer as it was, and the table's share whole again. -/
theorem deliver_join :
    bigSep Finset.univ (deliver d L tab q t0 fo hin)
      ⊢ (iprop((bufM.view.loc (VT d L) ↦[bufM.view.set]{fullShare} filled d L tab fo)
        ∗ (lstM.view.loc (VT d L) ↦[lstM.view.set]{fullShare} fo)
        ∗ (tabS.view.loc (VT d L) ↦[tabS.view.set]{q} tab)) : sProp 𝕄) := by
  rw [bigSep_univ_equiv (finProdFinEquiv (m := 5) (n := 128)) (deliver d L tab q t0 fo hin), bigSep_univ_prod, buf_wins, lst_rows]
  have hk : ∀ k : Fin 5, bigSep Finset.univ (fun i : Fin 128 => deliver d L tab q t0 fo hin (finProdFinEquiv (k, i)))
      ⊢ (iprop(((win k).view.loc (VT d L) ↦[(win k).view.set]{fullShare} filled d L tab fo)
        ∗ ((lst k).view.loc (VT d L) ↦[(lst k).view.set]{fullShare} fo)
        ∗ (tabS.view.loc (VT d L) ↦[tabS.view.set]{pieceOf q 5 five_pos k} tab)) : sProp 𝕄) := fun k => by
    rw [show (fun i : Fin 128 => deliver d L tab q t0 fo hin (finProdFinEquiv (k, i))) = fun i => rowOut d L tab q t0 fo hin k i from
      funext fun i => by unfold deliver; rw [Equiv.symm_apply_apply]]
    rw [← pointsTo_congr (win_filled d L tab t0 fo hin k)]
    exact rowsLanded_join (VT d L) tabS (win k) gathers_S100000x16_S128x16 (lst k) rfl (pieceOf q 5 five_pos k) fullShare tab t0 fo rows_pos
      (rows ((lst k).view.read (Elt F) fo) rfl (hin.list d L k))
  have hm := Idealize.SL.BI.bigSep_mono (M := 𝕄) (s := (Finset.univ : Finset (Fin 5))) fun k _ => hk k
  refine BI.Entails.trans hm ?_
  rw [bigSep_sep', bigSep_sep', ← pointsTo_piecesOf (tabS.view.set) tab five_pos q]
  exact BI.Entails.refl _

end Cert.EmbedMlp

end
-- ==== Proof.Tile.lean ====
/-
  ONE TILE'S TASK: it fetches its 5 × 128 index words, gathers the 640 table rows they name through five indirect copies
  outstanding at once on one semaphore, and writes them to its block of the gathered rows.
-/
module

public import proofs.«01_k».proof.Proof.Gathers

@[expose] public section

noncomputable section

namespace Cert.EmbedMlp

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.GatherBatch

variable {F : FTy → Type}

local notation "𝕄" => MT nD τ sig (HIx 1) (Elt F) ℕ UU ℕ

section Tile

variable [FloatOps F] (d : Dev nD) (L : grid0.Coords)

/-- What the index fetch lands in the index buffer: the task's rows of the index array. -/
abbrev fetched (iv : Buf (Elt F) (idxLoc d)) : S5x128.Idx → Elt F .i32 := ReadAs.same.apply ((myIdx L).view.read (Elt F) iv)

/-- The index buffer after the fetch. -/
abbrev lstVal (iv : Buf (Elt F) (idxLoc d)) (g0 : Buf (Elt F) (lstM.view.loc (VT d L))) : Buf (Elt F) (lstM.view.loc (VT d L)) :=
  lstM.view.writes (Elt F) g0 [⟨Rect.whole S5x128, fetched d L iv⟩]

omit [FloatOps F] in
theorem fetched_apply (iv : Buf (Elt F) (idxLoc d)) (x : S5x128.Idx) : fetched d L iv x = iv ((myIdx L).view.emb x) :=
  (View.read_apply _ _).trans (cast_eq _ _)

omit [FloatOps F] in
theorem lstVal_apply (iv : Buf (Elt F) (idxLoc d)) (g0 : Buf (Elt F) (lstM.view.loc (VT d L))) (x : S5x128.Idx) :
    lstVal d L iv g0 x = iv ((myIdx L).view.emb x) := by
  have h := congrFun (View.read_writes_whole lstM.view g0 (fetched d L iv) (Val := Elt F)) x
  rw [View.read_apply] at h
  exact ((cast_eq _ _).symm.trans h).trans (fetched_apply d L iv x)

omit [FloatOps F] in
theorem inRange_of (iv : Buf (Elt F) (idxLoc d)) (hiv : ∀ y : S32x5x128.Idx, ((iv : S32x5x128.Idx → BitVec 32) y).toNat < 100000)
    (g0 : Buf (Elt F) (lstM.view.loc (VT d L))) : InRange d L (lstVal d L iv g0) := by
  intro y
  have h := lstVal_apply d L iv g0 y
  show BitVec.toNat (lstVal d L iv g0 y) < 100000
  rw [h]; exact hiv _

/-! ## What the task writes -/

omit [FloatOps F] in
/-- Where word `r` of a task sits in its squeezed index row. -/
theorem word_place : ∀ r : Fin 640,
    ((Shape.reshapeEquiv (s := S1x5x128) (s' := S5x128) squeezes_S1x5x128_S5x128.numel_eq) (lstIx r.val r.isLt) 0).val = 0
      ∧ ((Shape.reshapeEquiv (s := S1x5x128) (s' := S5x128) squeezes_S1x5x128_S5x128.numel_eq) (lstIx r.val r.isLt) 1).val = r.val / 128
      ∧ ((Shape.reshapeEquiv (s := S1x5x128) (s' := S5x128) squeezes_S1x5x128_S5x128.numel_eq) (lstIx r.val r.isLt) 2).val = r.val % 128 := by
  decide +kernel

theorem coord0_lt : (L 0).val < 2 := (L 0).isLt
theorem coord1_lt : (L 1).val < 16 := (L 1).isLt

/-- Word `r` of the task's words is word `640 w + r` of all. -/
theorem myIdx_emb (r : ℕ) (h : r < 640) (h' : 1280 * (L 1).val + 640 * (L 0).val + r < 20480) :
    (myIdx L).view.emb (lstIx r h) = idxIx (1280 * (L 1).val + 640 * (L 0).val + r) h' := by
  obtain ⟨e0, e1, e2⟩ := word_place ⟨r, h⟩
  have c0 := coord0_lt L
  have hoff := k0_off1_eq L
  funext b; apply Fin.ext
  match b with
  | ⟨0, _⟩ =>
    show k0_off1 L 0 + 1 * ((Shape.reshapeEquiv (s := S1x5x128) (s' := S5x128) squeezes_S1x5x128_S5x128.numel_eq) (lstIx r h) 0).val
      = (1280 * (L 1).val + 640 * (L 0).val + r) / 640
    rw [e0, hoff]
    show 2 * (L 1).val + (L 0).val + 1 * 0 = _
    omega
  | ⟨1, _⟩ =>
    show k0_off1 L 1 + 1 * ((Shape.reshapeEquiv (s := S1x5x128) (s' := S5x128) squeezes_S1x5x128_S5x128.numel_eq) (lstIx r h) 1).val
      = (1280 * (L 1).val + 640 * (L 0).val + r) % 640 / 128
    rw [e1, hoff]
    show 0 + 1 * (r / 128) = _
    omega
  | ⟨2, _⟩ =>
    show k0_off1 L 2 + 1 * ((Shape.reshapeEquiv (s := S1x5x128) (s' := S5x128) squeezes_S1x5x128_S5x128.numel_eq) (lstIx r h) 2).val
      = (1280 * (L 1).val + 640 * (L 0).val + r) % 128
    rw [e2, hoff]
    show 0 + 1 * (r % 128) = _
    omega

/-- On the task's block, the copy of the filled row buffer is the gathered rows. -/
theorem rows_written (iv : Buf (Elt F) (idxLoc d)) (tab : Buf (Elt F) (tabLoc d)) (ov : Buf (Elt F) (rowLoc d))
    (g0 : Buf (Elt F) (lstM.view.loc (VT d L))) : ∀ y ∈ (myRows L).view.set,
    (myRows L).view.writes (Elt F) ov
        [⟨Rect.whole S640x16, ReadAs.same.apply (bufM.view.read (Elt F) (filled d L tab (lstVal d L iv g0)))⟩] y = gathered d iv tab y := by
  intro y hy
  obtain ⟨x, -, rfl⟩ := Finset.mem_map.mp hy
  have hoff := k0_off2_eq L
  have hx : (x 0).val < 640 := (x 0).isLt
  have c0 := coord0_lt L
  have c1 := coord1_lt L
  have h := congrFun (View.read_writes_whole (myRows L).view ov
    (ReadAs.same.apply (bufM.view.read (Elt F) (filled d L tab (lstVal d L iv g0)))) (Val := Elt F)) x
  rw [View.read_apply] at h
  refine ((cast_eq _ _).symm.trans h).trans ?_
  refine ((View.read_apply _ _).trans (cast_eq _ _)).trans ?_
  show tab (tabIx (rowAt (lstVal d L iv g0 (lstIx (x 0).val (x 0).isLt))) (x 1)) = tab (tabIx (rowAt (iv (idxIx (k0_off2 L 0 + 1 * (x 0).val) _))) _)
  rw [lstVal_apply, myIdx_emb L (x 0).val hx (by omega)]
  refine congrArg tab ?_
  have e0 : 1280 * (L 1).val + 640 * (L 0).val + (x 0).val = k0_off2 L 0 + 1 * (x 0).val := by
    rw [hoff]; show _ = 1280 * (L 1).val + 640 * (L 0).val + 1 * (x 0).val; omega
  have e1 : (x 1) = ((myRows L).view.emb x) 1 := by
    apply Fin.ext
    show (x 1).val = k0_off2 L 1 + 1 * (x 1).val
    rw [hoff]; show _ = 0 + 1 * (x 1).val; omega
  rw [← e1]
  congr 4

/-- A property of five windows, spelt out. -/
theorem five {Φ : Fin 5 → sProp 𝕄} : (bigSep Finset.univ Φ : sProp 𝕄) ⊣⊢ iprop(Φ 0 ∗ Φ 1 ∗ Φ 2 ∗ Φ 3 ∗ Φ 4) := by
  have h : (Finset.univ : Finset (Fin 5)) = {0, 1, 2, 3, 4} := by decide
  rw [h, SparseCore.bigSep_insert' (by decide), SparseCore.bigSep_insert' (by decide), SparseCore.bigSep_insert' (by decide),
    SparseCore.bigSep_insert' (by decide), bigSep_singleton]

/-- The body's last transfer: the row buffer goes out to the task's block. -/
theorem tile_tail (ov : Buf (Elt F) (rowLoc d)) (t1 : Buf (Elt F) (bufM.view.loc (VT d L)))
    (O : CellTallies nD τ sig (HIx 1)) (W : Waits sig (HIx 1)) h1 h2 h3 h4 h5 :
    (iprop(Transfers.MayWaits (VT d L) (default : HIx 1) O
        ∗ ((myRows L).view.loc (VT d L) ↦[(myRows L).view.set]{fullShare} ov)
        ∗ (bufM.view.loc (VT d L) ↦[bufM.view.set]{fullShare} t1)
        ∗ semVal (VT d L, .dma osem) 0
        ∗ owes (VT d L) O W) : sProp 𝕄)
      ⊢ wp frame (wpE (defs₀ (F := F)) 𝒱₀ (VT d L) none) Set.univ
          (do
            Prog.lift (.enqueueDma bufM (.here (myRows L)) (.dma osem) h1 h2 h3)
            Prog.lift (.waitDma2 osem bufM (myRows L) h4 h5)
            pure PUnit.unit) fun _ =>
          iprop(
            ((myRows L).view.loc (VT d L) ↦[(myRows L).view.set]{fullShare} (myRows L).view.writes (Elt F) ov [⟨Rect.whole S640x16, ReadAs.same.apply (bufM.view.read (Elt F) t1)⟩])
        ∗ (bufM.view.loc (VT d L) ↦[bufM.view.set]{fullShare} t1)
        ∗ semVal (VT d L, .dma osem) 0
        ∗ owes (VT d L) O (insert (SemLoc.dma osem, (default : HIx 1)) W)) := by
  iintro ⟨#Hmw, HO0, HT, Hc1, HO⟩
  sl_exec
  rw [show (Prog.ret PUnit.unit : Prog (TpuEff nD τ sig (Elt F) Λ₀ (VT d L).2) PUnit) = Pure.pure PUnit.unit from rfl, wp_pure]
  imodintro
  isplitl [HO0]; · iexact HO0
  isplitl [HT]; · iexact HT
  isplitl [Hc1]; · iexact Hc1
  iexact HO

/-- THE TASK'S RUN. -/
theorem tile_run (iv : Buf (Elt F) (idxLoc d)) (tab : Buf (Elt F) (tabLoc d)) (ov : Buf (Elt F) (rowLoc d)) (q : PosShare TreeShare)
    (hiv : ∀ y : S32x5x128.Idx, ((iv : S32x5x128.Idx → BitVec 32) y).toNat < 100000)
    (g0 : Buf (Elt F) (lstM.view.loc (VT d L))) (t0 : Buf (Elt F) (bufM.view.loc (VT d L)))
    (O : CellTallies nD τ sig (HIx 1)) (W : Waits sig (HIx 1)) :
    (iprop(Transfers.MayWaits (VT d L) (default : HIx 1) O
        ∗ ((myIdx L).view.loc (VT d L) ↦[(myIdx L).view.set]{fullShare} iv)
        ∗ (tabS.view.loc (VT d L) ↦[tabS.view.set]{q} tab)
        ∗ ((myRows L).view.loc (VT d L) ↦[(myRows L).view.set]{fullShare} ov)
        ∗ (lstM.view.loc (VT d L) ↦[lstM.view.set]{fullShare} g0)
        ∗ (bufM.view.loc (VT d L) ↦[bufM.view.set]{fullShare} t0)
        ∗ semVal (VT d L, .dma gsem) 0 ∗ semVal (VT d L, .dma isem) 0 ∗ semVal (VT d L, .dma osem) 0
        ∗ owes (VT d L) O W) : sProp 𝕄)
      ⊢ wp frame (wpE (defs₀ (F := F)) 𝒱₀ (VT d L) none) Set.univ
          (cc0_gather_k L tabM (Memref.isWhole_whole _) idxM (Memref.isWhole_whole _) rowM (Memref.isWhole_whole _) lstM (Memref.isWhole_whole _)
            bufM (Memref.isWhole_whole _) cc0_scratch2 cc0_scoped0 cc0_scoped1) fun _ =>
          iprop(((myIdx L).view.loc (VT d L) ↦[(myIdx L).view.set]{fullShare} iv)
        ∗ (tabS.view.loc (VT d L) ↦[tabS.view.set]{q} tab)
        ∗ ((myRows L).view.loc (VT d L) ↦[(myRows L).view.set]{fullShare} gathered d iv tab)
        ∗ (∃ g, lstM.view.loc (VT d L) ↦[lstM.view.set]{fullShare} g)
        ∗ (∃ t, bufM.view.loc (VT d L) ↦[bufM.view.set]{fullShare} t)
        ∗ semVal (VT d L, .dma gsem) 0 ∗ semVal (VT d L, .dma isem) 0 ∗ semVal (VT d L, .dma osem) 0
        ∗ ∃ W', ⌜∀ p ∈ W', p ∈ W ∨ p.2 = none⌝ ∗ owes (VT d L) O W') := by
  have hin : InRange d L (lstVal d L iv g0) := inRange_of d L iv hiv g0
  iintro ⟨#Hmw, HI, HX, HO0, HG, HT, Hc2, Hc0, Hc1, HO⟩
  imod (Transfers.batch_alloc' EC (VT d L) (default : HIx 1) 512 (deliver d L tab q t0 (lstVal d L iv g0) hin)) $$ Hc2 with HB
  sl_unfold [cc0_gather_k]
  sl_open_parts
  sl_exec
  simp only [bind_assoc, pure_bind]
  ihave HXs := (Entails.of_eq (pointsTo_piecesOf _ tab five_pos q)) $$ HX
  ihave HTs := (Entails.of_eq (buf_wins d L t0)) $$ HT
  ihave HGs := (Entails.of_eq (lst_rows d L (lstVal d L iv g0))) $$ [HG]
  · iexact HG
  icases five.1 $$ HXs with ⟨HX0, HX1, HX2, HX3, HX4⟩
  icases five.1 $$ HTs with ⟨HT0, HT1, HT2, HT3, HT4⟩
  icases five.1 $$ HGs with ⟨HG0, HG1, HG2, HG3, HG4⟩
  iapply (wp_gather d L tab q t0 (lstVal d L iv g0) hin 0 0 128 rfl rfl _) $$ [HX0 HT0 HG0 HB]
  · isplitl [HX0]; · iexact HX0
    isplitl [HT0]; · iexact HT0
    isplitl [HG0]; · iexact HG0
    iexact HB
  iintro HB
  iapply (wp_gather d L tab q t0 (lstVal d L iv g0) hin 1 128 256 rfl rfl _) $$ [HX1 HT1 HG1 HB]
  · isplitl [HX1]; · iexact HX1
    isplitl [HT1]; · iexact HT1
    isplitl [HG1]; · iexact HG1
    iexact HB
  iintro HB
  iapply (wp_gather d L tab q t0 (lstVal d L iv g0) hin 2 256 384 rfl rfl _) $$ [HX2 HT2 HG2 HB]
  · isplitl [HX2]; · iexact HX2
    isplitl [HT2]; · iexact HT2
    isplitl [HG2]; · iexact HG2
    iexact HB
  iintro HB
  iapply (wp_gather d L tab q t0 (lstVal d L iv g0) hin 3 384 512 rfl rfl _) $$ [HX3 HT3 HG3 HB]
  · isplitl [HX3]; · iexact HX3
    isplitl [HT3]; · iexact HT3
    isplitl [HG3]; · iexact HG3
    iexact HB
  iintro HB
  iapply (wp_gather d L tab q t0 (lstVal d L iv g0) hin 4 512 640 rfl rfl _) $$ [HX4 HT4 HG4 HB]
  · isplitl [HX4]; · iexact HX4
    isplitl [HT4]; · iexact HT4
    isplitl [HG4]; · iexact HG4
    iexact HB
  iintro HB
  iapply (wp_drain d L 0 0 65536 rfl rfl (deliver d L tab q t0 (lstVal d L iv g0) hin) _) $$ [HB HO]
  · isplitl [HB]; · iexact HB
    isplitl [HO]; · iexact HO
    iapply (Transfers.MayWaits.elim (.dma gsem)) $$ Hmw
  iintro ⟨HB, HO⟩
  iapply (wp_drain d L 1 65536 131072 rfl rfl (deliver d L tab q t0 (lstVal d L iv g0) hin) _) $$ [HB HO]
  · isplitl [HB]; · iexact HB
    isplitl [HO]; · iexact HO
    iapply (Transfers.MayWaits.elim (.dma gsem)) $$ Hmw
  iintro ⟨HB, HO⟩
  iapply (wp_drain d L 2 131072 196608 rfl rfl (deliver d L tab q t0 (lstVal d L iv g0) hin) _) $$ [HB HO]
  · isplitl [HB]; · iexact HB
    isplitl [HO]; · iexact HO
    iapply (Transfers.MayWaits.elim (.dma gsem)) $$ Hmw
  iintro ⟨HB, HO⟩
  iapply (wp_drain d L 3 196608 262144 rfl rfl (deliver d L tab q t0 (lstVal d L iv g0) hin) _) $$ [HB HO]
  · isplitl [HB]; · iexact HB
    isplitl [HO]; · iexact HO
    iapply (Transfers.MayWaits.elim (.dma gsem)) $$ Hmw
  iintro ⟨HB, HO⟩
  iapply (wp_drain d L 4 262144 327680 rfl rfl (deliver d L tab q t0 (lstVal d L iv g0) hin) _) $$ [HB HO]
  · isplitl [HB]; · iexact HB
    isplitl [HO]; · iexact HO
    iapply (Transfers.MayWaits.elim (.dma gsem)) $$ Hmw
  iintro ⟨HB, HO⟩
  imod (Transfers.batch_collect' EC (VT d L) (by decide)) $$ HB with ⟨HD, Hc2⟩
  icases (deliver_join d L tab q t0 (lstVal d L iv g0) hin) $$ HD with ⟨HT, HG, HX⟩
  iapply (wp_wand_r Idealize.ShloMosaic.frame (wpE (defs₀ (F := F)) 𝒱₀ (VT d L) none) Set.univ)
  isplitl [HO0 HT Hc1 HO]
  · iapply (tile_tail d L ov (filled d L tab (lstVal d L iv g0)) O _ _ _ _ _ _)
    isplitr; · iexact Hmw
    isplitl [HO0]; · iexact HO0
    isplitl [HT]; · iexact HT
    isplitl [Hc1]; · iexact Hc1
    iexact HO
  iintro %_ ⟨HO0, HT, Hc1, HO⟩
  ihave HO0' := (Entails.of_eq (pointsTo_congr (rows_written d L iv tab ov g0))) $$ HO0
  isplitl [HI]; · iexact HI
  isplitl [HX]; · iexact HX
  isplitl [HO0']; · iexact HO0'
  isplitl [HG]; · iexists _; iexact HG
  isplitl [HT]; · iexists _; iexact HT
  isplitl [Hc2]; · iexact Hc2
  isplitl [Hc0]; · iexact Hc0
  isplitl [Hc1]; · iexact Hc1
  iexists _; isplitr
  rotate_left
  · iexact HO
  · ipureintro; intro p hp
    simp only [Finset.mem_insert] at hp
    rcases hp with rfl | rfl | rfl | rfl | rfl | rfl | rfl | hp
    all_goals first
      | exact Or.inr rfl
      | exact Or.inl hp

end Tile

end Cert.EmbedMlp

end
-- ==== Proof.Task.lean ====
/-
  THE LAUNCH'S SIDE OF A TASK: what the call hands the task on SparseCore `c`, tile `i` and takes back, the tile's scratch and
  its cells as the launch deals them, and the obligation the launch asks of the tiles.
-/
module

public import proofs.«01_k».proof.Proof.Tile

@[expose] public section

noncomputable section

namespace Cert.EmbedMlp

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.GatherBatch

variable {F : FTy → Type}

local notation "𝕄" => MT nD τ sig (HIx 1) (Elt F) ℕ UU ℕ

/-! ## What a task is handed and hands back -/

/-- The task's coordinates in the grid. -/
def coordsV (c : Fin (grid0.bound 0)) (s : Fin (grid0.bound 1)) : grid0.Coords :=
  fun | 0 => c | 1 => s | ⟨_ + 2, h⟩ => absurd h (Nat.not_lt.2 (Nat.le_add_left _ _))

/-- The coordinates of tile `i` of SparseCore `c`. -/
abbrev co (c : Fin 2) (i : Fin 16) : grid0.Coords := coordsV c i

theorem tasks_pos : 0 < 2 * 16 := by decide
/-- The task's share of the table: one of 32 pieces. -/
abbrev tq (c : Fin 2) (i : Fin 16) : PosShare TreeShare := pieceOf fullShare (2 * 16) tasks_pos (finProdFinEquiv (c, i))

abbrev idxPts (d : Dev nD) (iv : Buf (Elt F) (idxLoc d)) (c : Fin 2) (i : Fin 16) : sProp 𝕄 :=
  idxLoc d ↦[(myIdx (co c i)).view.set]{fullShare} iv
abbrev tabPts (d : Dev nD) (tab : Buf (Elt F) (tabLoc d)) (c : Fin 2) (i : Fin 16) : sProp 𝕄 := tabLoc d ↦{tq c i} tab
abbrev rowPts (d : Dev nD) (f : Buf (Elt F) (rowLoc d)) (c : Fin 2) (i : Fin 16) : sProp 𝕄 :=
  rowLoc d ↦[(myRows (co c i)).view.set]{fullShare} f

abbrev goP (d : Dev nD) (iv : Buf (Elt F) (idxLoc d)) (tab : Buf (Elt F) (tabLoc d)) (ov : Buf (Elt F) (rowLoc d)) (c : Fin 2) (i : Fin 16) : sProp 𝕄 :=
  iprop(idxPts d iv c i ∗ tabPts d tab c i ∗ rowPts d ov c i)
abbrev tdP (d : Dev nD) (iv : Buf (Elt F) (idxLoc d)) (tab : Buf (Elt F) (tabLoc d)) (c : Fin 2) (i : Fin 16) : sProp 𝕄 :=
  iprop(idxPts d iv c i ∗ tabPts d tab c i ∗ rowPts d (gathered d iv tab) c i)

section Task

variable (iv : (d : Dev nD) → Buf (Elt F) (idxLoc d)) (tab : (d : Dev nD) → Buf (Elt F) (tabLoc d)) (ov : (d : Dev nD) → Buf (Elt F) (rowLoc d))

/-- The call's operands go out as the tasks' pieces and come back as theirs, the blocks of rows at the gathered rows. -/
def P : (K (F := F)).Pay (nD := nD) (Val := Elt F) (Name := ℕ) (U := UU) where
  st := fun q d c => match q with | 0 => bigSep Finset.univ fun i : Fin 16 => goP d (iv d) (tab d) (ov d) c i
  dn := fun q d c => match q with | 0 => bigSep Finset.univ fun i : Fin 16 => tdP d (iv d) (tab d) c i
  go := fun q d c i => match q with | 0 => goP d (iv d) (tab d) (ov d) c i
  td := fun q d c i => match q with | 0 => tdP d (iv d) (tab d) c i
  x := fun _ _ => iprop(emp)

instance P_storable : (P iv tab ov).IsStorable where
  st q d c := match q with
    | 0 => (inferInstance : BI.Storable (upEmb : UEmb _ 𝕄) (bigSep Finset.univ fun i : Fin 16 => goP d (iv d) (tab d) (ov d) c i))
  dn q d c := match q with
    | 0 => (inferInstance : BI.Storable (upEmb : UEmb _ 𝕄) (bigSep Finset.univ fun i : Fin 16 => tdP d (iv d) (tab d) c i))
  go q d c i := match q with
    | 0 => (inferInstance : BI.Storable (upEmb : UEmb _ 𝕄) (goP d (iv d) (tab d) (ov d) c i))
  td q d c i := match q with
    | 0 => (inferInstance : BI.Storable (upEmb : UEmb _ 𝕄) (tdP d (iv d) (tab d) c i))

theorem vecSplit : (K (F := F)).VecSplit' (P iv tab ov) 0 := by
  intro d c
  show (bigSep Finset.univ fun i : Fin 16 => goP d (iv d) (tab d) (ov d) c i) ⊢ |={Set.univ}=> iprop(
      (bigSep Finset.univ fun i : Fin 16 => goP d (iv d) (tab d) (ov d) c i)
      ∗ ((bigSep Finset.univ fun i : Fin 16 => tdP d (iv d) (tab d) c i) -∗ bigSep Finset.univ fun i : Fin 16 => tdP d (iv d) (tab d) c i))
  iintro H; imodintro
  isplitl [H]; · iexact H
  iintro H; iexact H

/-! ## The tile's own cells and buffers -/

/-- Cell `k` of the three a task names. -/
abbrev dcell (d : Dev nD) (c : Fin τ.nSC) (i : Fin τ.nSub) (k : Fin 3) : GSem nD τ sig := (V d c i, .dma ⟨k.val, by have := k.isLt; show k.val < 12; omega⟩)

theorem dcell_mem (d : Dev nD) (c : Fin τ.nSC) (i : Fin τ.nSub) (k : Fin 3) : dcell d c i k ∈ ownCells (V d c i) :=
  mem_ownCells.mpr ⟨rfl, (show ∀ s : DmaSem sig, (SemLoc.dma s : SemLoc sig).isScoped .scVector = true by decide) _⟩

/-- The tile's own cells at zero: the gathers', the fetch's, the write's, and the rest. -/
theorem ownSems0_V (d : Dev nD) (L : grid0.Coords) :
    (ownSems0 (VT d L) : sProp 𝕄)
      = iprop((semVal (VT d L, .dma gsem) 0 ∗ semVal (VT d L, .dma isem) 0 ∗ semVal (VT d L, .dma osem) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 3)) = {0, 1, 2} by decide,
    SparseCore.bigSep_insert' (by decide), SparseCore.bigSep_insert' (by decide), bigSep_singleton]
  rfl

/-- The index buffer and the row buffer are among the tile's own. -/
theorem ownBufs_V (d : Dev nD) (L : grid0.Coords) :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem pts_lst (d : Dev nD) (L : grid0.Coords) (f : Buf (Elt F) (lstM.view.loc (VT d L))) :
    (lstM.view.loc (VT d L) ↦[lstM.view.set]{fullShare} f : sProp 𝕄) = ((VT d L).loc cc0_scratch0 ↦{fullShare} f) := by
  rw [View.set_whole]
theorem pts_buf (d : Dev nD) (L : grid0.Coords) (f : Buf (Elt F) (bufM.view.loc (VT d L))) :
    (bufM.view.loc (VT d L) ↦[bufM.view.set]{fullShare} f : sProp 𝕄) = ((VT d L).loc cc0_scratch1 ↦{fullShare} f) := by
  rw [View.set_whole]
theorem tabS_set : (tabS.view.set : Finset S100000x16.Idx) = Finset.univ := by
  refine (View.set_slice _ _).trans ?_
  refine Finset.eq_univ_of_forall fun x => ?_
  refine Finset.mem_map.mpr ⟨x, ?_, rfl⟩
  rw [Rect.mem_set_unit]
  intro a
  have h0 : (x 0).val < 100000 := (x 0).isLt
  have h1 : (x 1).val < 16 := (x 1).isLt
  fin_cases a
  · show 0 ≤ (x 0).val ∧ (x 0).val < 0 + 100000; omega
  · show 0 ≤ (x 1).val ∧ (x 1).val < 0 + 16; omega
theorem pts_tab (d : Dev nD) (L : grid0.Coords) (q : PosShare TreeShare) (f : Buf (Elt F) (tabLoc d)) :
    (tabS.view.loc (VT d L) ↦[tabS.view.set]{q} f : sProp 𝕄) = (tabLoc d ↦{q} f) :=
  congrArg (fun I => (tabLoc d ↦[I]{q} f : sProp 𝕄)) tabS_set

/-! ## The task as the launch asks for it -/

variable [FloatOps F]

/-- The task at `L`, from its pieces, its scratch and its cells, to its pieces with its block of the gathered rows. -/
theorem tile_body (d : Dev nD) (c : Fin 2) (i : Fin 16) (hF : (K (F := F)).Facts)
    (hiv : ∀ y : S32x5x128.Idx, ((iv d : S32x5x128.Idx → BitVec 32) y).toNat < 100000)
    (O : CellTallies nD τ sig (HIx 1)) (W : Waits sig (HIx 1)) (hO : ∀ g, O g none = 0) :
    iprop(levAts (K (F := F)).L (K (F := F)).lev ∗ emp ∗ goP d (iv d) (tab d) (ov d) c i
        ∗ scopedBufs (VT d (co c i)) ∗ scopedSems0 (VT d (co c i)) ∗ owes (VT d (co c i)) O W)
      ⊢ wp frame (wpE (defs₀ (F := F)) 𝒱₀ (VT d (co c i)) none) Set.univ
          (cc0_gather_k (co c i) tabM (Memref.isWhole_whole _) idxM (Memref.isWhole_whole _) rowM (Memref.isWhole_whole _) lstM (Memref.isWhole_whole _)
            bufM (Memref.isWhole_whole _) cc0_scratch2 cc0_scoped0 cc0_scoped1) fun _ =>
          iprop(tdP d (iv d) (tab d) c i ∗ scopedBufs (VT d (co c i)) ∗ scopedSems0 (VT d (co c i))
            ∗ ∃ W', ⌜∀ p ∈ W', p ∈ W ∨ p.2 = none ∨ p.2 = some (0 : Fin 1)⌝ ∗ owes (VT d (co c i)) O W') := by
  rw [(K (F := F)).scopedBufs_V hF d (cV (co c i)) (jV (co c i)), SparseCore.Cfg.scopedSems0_V (Val := Elt F) d (cV (co c i)) (jV (co c i)), ownSems0_V, ownBufs_V]
  iintro ⟨#Hlv, -, ⟨HI, HX, HR⟩, ⟨⟨%g0, HG⟩, ⟨%t0, HT⟩, Hbufs⟩, ⟨⟨Hc2, Hc0, Hc1⟩, Hsems⟩, HO⟩
  ihave Hmw := (show levAts (K (F := F)).L (K (F := F)).lev ⊢ Transfers.MayWaits (VT d (co c i)) (default : HIx 1) O from
    (K (F := F)).mayWaits_none (thr := VT d (co c i)) hO) $$ Hlv
  ihave HG' := (Entails.of_eq (pts_lst (F := F) d (co c i) _).symm) $$ HG
  ihave HT' := (Entails.of_eq (pts_buf (F := F) d (co c i) _).symm) $$ HT
  ihave HX' := (Entails.of_eq (pts_tab (F := F) d (co c i) _ _).symm) $$ HX
  iapply (wp_wand_r Idealize.ShloMosaic.frame (wpE (defs₀ (F := F)) 𝒱₀ (VT d (co c i)) none) Set.univ)
  isplitl [HI HX' HR HG' HT' Hc2 Hc0 Hc1 HO]
  · iapply (tile_run d (co c i) (iv d) (tab d) (ov d) (tq c i) hiv g0 t0 O W)
    isplitr; · iexact Hmw
    isplitl [HI]; · iexact HI
    isplitl [HX']; · iexact HX'
    isplitl [HR]; · iexact HR
    isplitl [HG']; · iexact HG'
    isplitl [HT']; · iexact HT'
    isplitl [Hc2]; · iexact Hc2
    isplitl [Hc0]; · iexact Hc0
    isplitl [Hc1]; · iexact Hc1
    iexact HO
  iintro %_ ⟨HI, HX', HR, ⟨%g, HG'⟩, ⟨%t, HT'⟩, Hc2, Hc0, Hc1, ⟨%W', %hW, HO⟩⟩
  isplitl [HI HX' HR]
  · isplitl [HI]; · iexact HI
    isplitl [HX']; · iapply (Entails.of_eq (pts_tab (F := F) d (co c i) _ _)); iexact HX'
    iexact HR
  isplitl [HG' HT' Hbufs]
  · isplitl [HG']; · iexists _; iapply (Entails.of_eq (pts_lst (F := F) d (co c i) _)); iexact HG'
    isplitl [HT']; · iexists _; iapply (Entails.of_eq (pts_buf (F := F) d (co c i) _)); iexact HT'
    iexact Hbufs
  isplitl [Hc2 Hc0 Hc1 Hsems]
  · isplitl [Hc2 Hc0 Hc1]
    · isplitl [Hc2]; · iexact Hc2
      isplitl [Hc0]; · iexact Hc0
      iexact Hc1
    iexact Hsems
  iexists W'; isplitr
  · ipureintro; intro p hp
    rcases hW p hp with h | h
    · exact .inl h
    · exact .inr (.inl h)
  · iexact HO

theorem defs₀_vector (c : Fin τ.nSC) (s : Fin τ.nSub) :
    defs₀ (F := F) (.scVector c s) 0 ()
      = SparseCore.onTile hcore0 hsub0 (fun c s => cc0_gather_k (coordsV c s) tabM (Memref.isWhole_whole _) idxM (Memref.isWhole_whole _) rowM (Memref.isWhole_whole _)
          lstM (Memref.isWhole_whole _) bufM (Memref.isWhole_whole _) cc0_scratch2 cc0_scoped0 cc0_scoped1) ⟨⟩ c s := rfl

/-- THE TILES' OBLIGATION. -/
theorem tileObl (hF : (K (F := F)).Facts) (hiv : ∀ (d : Dev nD) (y : S32x5x128.Idx), ((iv d : S32x5x128.Idx → BitVec 32) y).toNat < 100000) :
    (K (F := F)).TileObl (D (F := F)) 𝒱 (P iv tab ov) v₀ 0 := by
  intro d c i O W hO _ _
  simp only [show (P iv tab ov).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body iv tab ov d c i hF (hiv d) O W hO

end Task

end Cert.EmbedMlp

end
-- ==== Proof.Split.lean ====
/-
  THE ARRAYS AS THE TASKS' PIECES: the index rows are the 32 tasks' rows of them, the gathered rows their blocks, the table
  their shares; so what the SparseCore call takes and returns is these three arrays whole.
-/
module

public import proofs.«01_k».proof.Proof.Task

@[expose] public section

noncomputable section

namespace Cert.EmbedMlp

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.GatherBatch

variable {F : FTy → Type}

local notation "𝕄" => MT nD τ sig (HIx 1) (Elt F) ℕ UU ℕ

/-! ## The places of the pieces -/

/-- The task's row of the index array, as a rectangle of it. -/
abbrev idxRect (L : grid0.Coords) : Rect S32x5x128 := Rect.unit (s := S32x5x128) (k0_off1 L) S1x5x128.size (k0_off1_inb L)
/-- The task's block of the gathered rows, as a rectangle of them. -/
abbrev rowRect (L : grid0.Coords) : Rect S20480x16 := Rect.unit (s := S20480x16) (k0_off2 L) S640x16.size (k0_off2_inb L)

theorem idxSet_eq (L : grid0.Coords) : ((myIdx L).view.set : Finset S32x5x128.Idx) = (idxRect L).set := by
  refine (View.set_reshape _ _).trans ?_
  refine (View.set_slice _ _).trans ?_
  exact Finset.map_refl
theorem rowSet_eq (L : grid0.Coords) : ((myRows L).view.set : Finset S20480x16.Idx) = (rowRect L).set := by
  refine (View.set_slice _ _).trans ?_
  exact Finset.map_refl

/-- The task's number. -/
abbrev wid (p : Fin 2 × Fin 16) : ℕ := 2 * p.2.val + p.1.val

theorem idx_off (p : Fin 2 × Fin 16) : k0_off1 (co p.1 p.2) = ![wid p, 0, 0] := k0_off1_eq _
theorem row_off (p : Fin 2 × Fin 16) : k0_off2 (co p.1 p.2) = ![640 * wid p, 0] := by
  rw [k0_off2_eq]
  show ![1280 * p.2.val + 640 * p.1.val, 0] = _
  rw [show 1280 * p.2.val + 640 * p.1.val = 640 * wid p by unfold wid; omega]

theorem wid_inj {p p' : Fin 2 × Fin 16} (h : wid p = wid p') : p = p' := by
  have h1 := p.1.isLt; have h2 := p'.1.isLt
  unfold wid at h
  exact Prod.ext (Fin.ext (by omega)) (Fin.ext (by omega))

theorem idx_disjoint : ∀ p ∈ (Finset.univ : Finset (Fin 2 × Fin 16)), ∀ p' ∈ (Finset.univ : Finset (Fin 2 × Fin 16)), p ≠ p' →
    Disjoint (myIdx (co p.1 p.2)).view.set (myIdx (co p'.1 p'.2)).view.set := by
  intro p _ p' _ hne
  have hw : wid p ≠ wid p' := fun h => hne (wid_inj h)
  rw [idxSet_eq, idxSet_eq]
  refine Rect.disjoint_of_separated _ _ 0 ?_
  show (1 = 0 ∨ k0_off1 (co p.1 p.2) 0 + 1 * (1 - 1) < k0_off1 (co p'.1 p'.2) 0) ∨ (1 = 0 ∨ k0_off1 (co p'.1 p'.2) 0 + 1 * (1 - 1) < k0_off1 (co p.1 p.2) 0)
  rw [idx_off, idx_off]
  show (1 = 0 ∨ wid p + 1 * (1 - 1) < wid p') ∨ (1 = 0 ∨ wid p' + 1 * (1 - 1) < wid p)
  omega

theorem row_disjoint : ∀ p ∈ (Finset.univ : Finset (Fin 2 × Fin 16)), ∀ p' ∈ (Finset.univ : Finset (Fin 2 × Fin 16)), p ≠ p' →
    Disjoint (myRows (co p.1 p.2)).view.set (myRows (co p'.1 p'.2)).view.set := by
  intro p _ p' _ hne
  have hw : wid p ≠ wid p' := fun h => hne (wid_inj h)
  rw [rowSet_eq, rowSet_eq]
  refine Rect.disjoint_of_separated _ _ 0 ?_
  show (640 = 0 ∨ k0_off2 (co p.1 p.2) 0 + 1 * (640 - 1) < k0_off2 (co p'.1 p'.2) 0) ∨ (640 = 0 ∨ k0_off2 (co p'.1 p'.2) 0 + 1 * (640 - 1) < k0_off2 (co p.1 p.2) 0)
  rw [row_off, row_off]
  show (640 = 0 ∨ 640 * wid p + 1 * (640 - 1) < 640 * wid p') ∨ (640 = 0 ∨ 640 * wid p' + 1 * (640 - 1) < 640 * wid p)
  omega

theorem idx_cover : Finset.biUnion (β := S32x5x128.Idx) Finset.univ (fun p : Fin 2 × Fin 16 => (myIdx (co p.1 p.2)).view.set) = Finset.univ := by
  refine Finset.eq_univ_of_forall fun x => Finset.mem_biUnion.mpr ?_
  have h0 : (x 0).val < 32 := (x 0).isLt
  have h1 : (x 1).val < 5 := (x 1).isLt
  have h2 : (x 2).val < 128 := (x 2).isLt
  refine ⟨(⟨(x 0).val % 2, by omega⟩, ⟨(x 0).val / 2, by omega⟩), Finset.mem_univ _, ?_⟩
  rw [idxSet_eq, Rect.mem_set_unit, idx_off]
  intro a
  fin_cases a
  · show 2 * ((x 0).val / 2) + (x 0).val % 2 ≤ (x 0).val ∧ (x 0).val < 2 * ((x 0).val / 2) + (x 0).val % 2 + 1; omega
  · show 0 ≤ (x 1).val ∧ (x 1).val < 0 + 5; omega
  · show 0 ≤ (x 2).val ∧ (x 2).val < 0 + 128; omega

theorem row_cover : Finset.biUnion (β := S20480x16.Idx) Finset.univ (fun p : Fin 2 × Fin 16 => (myRows (co p.1 p.2)).view.set) = Finset.univ := by
  refine Finset.eq_univ_of_forall fun x => Finset.mem_biUnion.mpr ?_
  have h0 : (x 0).val < 20480 := (x 0).isLt
  have h1 : (x 1).val < 16 := (x 1).isLt
  refine ⟨(⟨(x 0).val / 640 % 2, by omega⟩, ⟨(x 0).val / 640 / 2, by omega⟩), Finset.mem_univ _, ?_⟩
  rw [rowSet_eq, Rect.mem_set_unit, row_off]
  intro a
  fin_cases a
  · show 640 * (2 * ((x 0).val / 640 / 2) + (x 0).val / 640 % 2) ≤ (x 0).val ∧ (x 0).val < 640 * (2 * ((x 0).val / 640 / 2) + (x 0).val / 640 % 2) + 640
    omega
  · show 0 ≤ (x 1).val ∧ (x 1).val < 0 + 16; omega

/-! ## Whole arrays and pieces -/

theorem idx_split (d : Dev nD) (iv : Buf (Elt F) (idxLoc d)) :
    (idxLoc d ↦{fullShare} iv : sProp 𝕄) = bigSep Finset.univ fun c : Fin 2 => bigSep Finset.univ fun i : Fin 16 => idxPts d iv c i := by
  rw [← bigSep_univ_prod (fun p : Fin 2 × Fin 16 => idxPts d iv p.1 p.2)]
  exact (congrArg (fun I => (idxLoc d ↦[I]{fullShare} iv : sProp 𝕄)) idx_cover.symm).trans
    (pointsTo_biUnion Finset.univ (ℓ := idxLoc d) (fun p : Fin 2 × Fin 16 => (myIdx (co p.1 p.2)).view.set) idx_disjoint)

theorem row_split (d : Dev nD) (f : Buf (Elt F) (rowLoc d)) :
    (rowLoc d ↦{fullShare} f : sProp 𝕄) = bigSep Finset.univ fun c : Fin 2 => bigSep Finset.univ fun i : Fin 16 => rowPts d f c i := by
  rw [← bigSep_univ_prod (fun p : Fin 2 × Fin 16 => rowPts d f p.1 p.2)]
  exact (congrArg (fun I => (rowLoc d ↦[I]{fullShare} f : sProp 𝕄)) row_cover.symm).trans
    (pointsTo_biUnion Finset.univ (ℓ := rowLoc d) (fun p : Fin 2 × Fin 16 => (myRows (co p.1 p.2)).view.set) row_disjoint)

theorem tab_split (d : Dev nD) (tab : Buf (Elt F) (tabLoc d)) :
    (tabLoc d ↦{fullShare} tab : sProp 𝕄) = bigSep Finset.univ fun c : Fin 2 => bigSep Finset.univ fun i : Fin 16 => tabPts d tab c i := by
  rw [← bigSep_univ_prod (fun p : Fin 2 × Fin 16 => tabPts d tab p.1 p.2), pointsTo_piecesOf Finset.univ tab tasks_pos fullShare,
    bigSep_univ_equiv (finProdFinEquiv (m := 2) (n := 16))]

/-- What the call takes, over both SparseCores, is the three arrays whole. -/
theorem st_eq (iv : (d : Dev nD) → Buf (Elt F) (idxLoc d)) (tab : (d : Dev nD) → Buf (Elt F) (tabLoc d)) (ov : (d : Dev nD) → Buf (Elt F) (rowLoc d)) (d : Dev nD) :
    (bigSep Finset.univ fun c : Fin ((K (F := F)).nCore 0) => (P iv tab ov).st 0 d c)
      = (iprop((idxLoc d ↦{fullShare} iv d) ∗ (tabLoc d ↦{fullShare} tab d) ∗ (rowLoc d ↦{fullShare} ov d)) : sProp 𝕄) := by
  show (bigSep Finset.univ fun c : Fin 2 => bigSep Finset.univ fun i : Fin 16 => goP d (iv d) (tab d) (ov d) c i) = _
  rw [idx_split, tab_split, row_split, ← bigSep_sep', ← bigSep_sep']
  refine bigSep_congr fun c _ => ?_
  rw [bigSep_sep', bigSep_sep']

/-- What it returns: the same, the rows at the gathered rows. -/
theorem dn_eq (iv : (d : Dev nD) → Buf (Elt F) (idxLoc d)) (tab : (d : Dev nD) → Buf (Elt F) (tabLoc d)) (ov : (d : Dev nD) → Buf (Elt F) (rowLoc d)) (d : Dev nD) :
    (bigSep Finset.univ fun c : Fin ((K (F := F)).nCore 0) => (P iv tab ov).dn 0 d c)
      = (iprop((idxLoc d ↦{fullShare} iv d) ∗ (tabLoc d ↦{fullShare} tab d) ∗ (rowLoc d ↦{fullShare} gathered d (iv d) (tab d))) : sProp 𝕄) := by
  show (bigSep Finset.univ fun c : Fin 2 => bigSep Finset.univ fun i : Fin 16 => tdP d (iv d) (tab d) c i) = _
  rw [idx_split, tab_split, row_split, ← bigSep_sep', ← bigSep_sep']
  refine bigSep_congr fun c _ => ?_
  rw [bigSep_sep', bigSep_sep']

end Cert.EmbedMlp

end
-- ==== Proof.MlpBody.lean ====
/-
  THE TENSORCORE BODY, RUN: on its staging buffers and the scratch, at the first point of the grid, where it computes the hidden
  layer, and at a later one, where it finds the hidden layer in the scratch.
-/
module

public import proofs.«01_k».proof.Proof.Base
public import proofs.«01_k».proof.Proof.Gen.KernelIdeal.Launch
public import proofs.«01_k».proof.Proof.Gen.KernelIdeal.Points
public import Idealize.ShloMosaic.Lib.Pipeline.Value
public import Idealize.ShloMosaic.Lib.Pipeline.FrameBody

@[expose] public section

noncomputable section

namespace Cert.EmbedMlp

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A memref's buffer on device `c`, held whole at the contents `f`. -/
abbrev pt (c : Dev nD) {sp : Space} {s : Shape} {e : EltTy} (M : Memref sig .tc sp s e) (f : Buf (Elt F) (M.view.loc (c : Thread nD τ))) : sProp 𝕄 :=
  M.view.loc (c : Thread nD τ) ↦{fullShare} f

theorem zero2 : (![0, 0] : Fin 2 → ℕ) = fun _ => 0 := funext fun a => by fin_cases a <;> rfl

/-- What a load of a whole buffer reads, -/
theorem readAt_zero {S : Shape} {e : EltTy} {sp : Space} (v : View sig .tc sp S e) (f : v.ty.Contents (Elt F)) {off : Fin S.rank → ℕ}
    (h : off = fun _ => 0) (inb : ∀ a, off a + S.size a ≤ S.size a) :
    View.readAt (Elt F) v (Rect.unit off S.size inb).toLoadRect f = v.read (Elt F) f :=
  View.ld_unit_zero h inb (v.read (Elt F) f)

/-- and what a buffer reads after a store of the whole of it, whatever was stored before. -/
theorem read_writes_zero {S : Shape} {e : EltTy} {sp : Space} (v : View sig .tc sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w

section Run

variable (c : Dev nD) (i : grid1.Coords)
  (M1 : Memref sig .tc .vmem S1024x320 .f32) (h1 : M1.IsWhole) (M2 : Memref sig .tc .vmem S320x64 .f32) (h2 : M2.IsWhole)
  (M3 : Memref sig .tc .vmem S1x64 .f32) (h3 : M3.IsWhole) (M4 : Memref sig .tc .vmem S64x4096 .f32) (h4 : M4.IsWhole)
  (M5 : Memref sig .tc .vmem S1x4096 .f32) (h5 : M5.IsWhole) (M6 : Memref sig .tc .vmem S1024x4096 .f32) (h6 : M6.IsWhole)
  (M7 : Memref sig .tc .vmem S1024x64 .f32) (h7 : M7.IsWhole)

/-- At a point after the first, the body leaves in the result's buffer the second layer's block from the hidden layer that the
    scratch holds, and everything else as it was. -/
theorem body_later (hi : (i 0).val ≠ 0)
    (x4 : S64x4096.Idx → Elt F .f32) (x5 : S1x4096.Idx → Elt F .f32) (x6 : S1024x4096.Idx → Elt F .f32) (h : S1024x64.Idx → Elt F .f32)
    (E : Set ℕ) (Q : PUnit → sProp 𝕄) :
    iprop((owns (c : Thread nD τ) M4 fullShare x4 ∗ owns (c : Thread nD τ) M5 fullShare x5 ∗ owns (c : Thread nD τ) M6 fullShare x6
        ∗ owns (c : Thread nD τ) M7 fullShare h)
      ∗ (iprop(owns (c : Thread nD τ) M4 fullShare x4 ∗ owns (c : Thread nD τ) M5 fullShare x5
          ∗ owns (c : Thread nD τ) M6 fullShare (k1_pay2 h x4 x5) ∗ owns (c : Thread nD τ) M7 fullShare h) -∗ Q ⟨⟩))
      ⊢ wp frame (wpE (defs₀ (F := F)) Variants.none (c : Thread nD τ) none) E (cc1__mlp_body i M1 h1 M2 h2 M3 h3 M4 h4 M5 h5 M6 h6 M7 h7) Q := by
  rw [cc1__mlp_body_eq_skeleton]
  unfold cc1__mlp_body_skel
  have hc : ¬ (Scalar.cmpi .ne (Scalar.extui (Scalar.cmpi .eq (BitVec.ofNat 32 (i 0).val) 0#32) : BitVec 32) 0#32 = 1#1) := by
    have hlt : (i 0).val < 25 := (i 0).isLt
    intro e
    apply hi
    generalize hn : (i 0).val = n at *
    interval_cases n <;> first | rfl | (exfalso; revert e; decide)
  simp only [dif_neg hc, pure_bind]
  unfold owns
  rw [h4.set_eq_univ, h5.set_eq_univ, h6.set_eq_univ, h7.set_eq_univ]
  iintro ⟨⟨⟨%f4, %e4, H4⟩, ⟨%f5, %e5, H5⟩, ⟨%f6, -, H6⟩, ⟨%f7, %e7, H7⟩⟩, Hk⟩
  sl_exec
  sl_step
  iapply Hk
  isplitl [H4]; · iexists f4; isplitr; · ipureintro; exact e4
                  iexact H4
  isplitl [H5]; · iexists f5; isplitr; · ipureintro; exact e5
                  iexact H5
  isplitl [H6]
  · iexists _; isplitr; rotate_left
    · iexact H6
    · ipureintro
      exact (read_writes_zero _ _ zero2 _ _).trans (by
        rw [← e7, ← e4, ← e5]
        congr 1
        · exact readAt_zero _ _ zero2 _
        · exact readAt_zero _ _ zero2 _
        · exact readAt_zero _ _ zero2 _)
  · iexists f7; isplitr; · ipureintro; exact e7
    iexact H7

/-- At the first point, the body computes the hidden layer into the scratch, whatever the scratch held, and leaves in the result's
    buffer the second layer's block from it; the inputs' buffers stay as they were. -/
theorem body_first (hi : (i 0).val = 0) (x1 : S1024x320.Idx → Elt F .f32) (x2 : S320x64.Idx → Elt F .f32) (x3 : S1x64.Idx → Elt F .f32)
    (x4 : S64x4096.Idx → Elt F .f32) (x5 : S1x4096.Idx → Elt F .f32) (x6 : S1024x4096.Idx → Elt F .f32) (h : S1024x64.Idx → Elt F .f32)
    (E : Set ℕ) (Q : PUnit → sProp 𝕄) :
    iprop((owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ owns (c : Thread nD τ) M7 fullShare h)
      ∗ (iprop(owns (c : Thread nD τ) M1 fullShare x1 ∗ owns (c : Thread nD τ) M2 fullShare x2 ∗ owns (c : Thread nD τ) M3 fullShare x3
          ∗ owns (c : Thread nD τ) M4 fullShare x4 ∗ owns (c : Thread nD τ) M5 fullShare x5
          ∗ owns (c : Thread nD τ) M6 fullShare (k1_pay2 (k1_pay1 x1 x2 x3) x4 x5) ∗ owns (c : Thread nD τ) M7 fullShare (k1_pay1 x1 x2 x3)) -∗ Q ⟨⟩))
      ⊢ wp frame (wpE (defs₀ (F := F)) Variants.none (c : Thread nD τ) none) E (cc1__mlp_body i M1 h1 M2 h2 M3 h3 M4 h4 M5 h5 M6 h6 M7 h7) Q := by
  rw [cc1__mlp_body_eq_skeleton]
  unfold cc1__mlp_body_skel
  have hc : Scalar.cmpi .ne (Scalar.extui (Scalar.cmpi .eq (BitVec.ofNat 32 (i 0).val) 0#32) : BitVec 32) 0#32 = 1#1 := by
    rw [hi]; decide
  simp only [dif_pos hc]
  unfold owns
  rw [h1.set_eq_univ, h2.set_eq_univ, h3.set_eq_univ, h4.set_eq_univ, h5.set_eq_univ, h6.set_eq_univ, h7.set_eq_univ]
  iintro ⟨⟨⟨%f1, %e1, H1⟩, ⟨%f2, %e2, H2⟩, ⟨%f3, %e3, H3⟩, ⟨%f4, %e4, H4⟩, ⟨%f5, %e5, H5⟩, ⟨%f6, -, H6⟩, ⟨%f7, -, H7⟩⟩, Hk⟩
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  have hp : k1_pay1 (View.readAt (Elt F) M1.view (Rect.unit ![0, 0] S1024x320.size inb_S1024x320_S1024x320_0_0).toLoadRect f1)
      (View.readAt (Elt F) M2.view (Rect.unit ![0, 0] S320x64.size inb_S320x64_S320x64_0_0).toLoadRect f2)
      (View.readAt (Elt F) M3.view (Rect.unit ![0, 0] S1x64.size inb_S1x64_S1x64_0_0).toLoadRect f3) = k1_pay1 x1 x2 x3 := by
    rw [← e1, ← e2, ← e3]
    congr 1
    · exact readAt_zero _ _ zero2 _
    · exact readAt_zero _ _ zero2 _
    · exact readAt_zero _ _ zero2 _
  isplitl [H6]
  · iexists _; isplitr; rotate_left
    · iexact H6
    · ipureintro
      exact (read_writes_zero _ _ zero2 _ _).trans (by
        rw [← e4, ← e5]
        congr 1
        · unfold body_first.sl.v3 body_first.sl.H7_1
          exact (View.readCov_unit_zero M7.view zero2 _ _).trans hp
        · exact readAt_zero _ _ zero2 _
        · exact readAt_zero _ _ zero2 _)
  · iexists _; isplitr; rotate_left
    · iexact H7
    · ipureintro
      unfold body_first.sl.H7_1
      exact (read_writes_zero _ _ zero2 _ _).trans hp

end Run

end Cert.EmbedMlp

end
-- ==== Proof.Region.lean ====
/-
  THE TENSORCORE REGION: its proof data, the obligation of its body at every point of the grid, and the region as one step of the
  program, entered with the six arrays and left with the result at the second layer's blocks.
-/
module

public import proofs.«01_k».proof.Proof.MlpBody
public import Idealize.ShloMosaic.Lib.Pipeline.DatRel
public import Idealize.ShloMosaic.Lib.Pipeline.ArrRel
public import Idealize.ShloMosaic.Lib.Pipeline.Regions

@[expose] public section

noncomputable section

namespace Cert.EmbedMlp

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat Cfg Window BodyObligationRel)

variable {F : FTy → Type} [FloatOps F]

local notation "𝕄" => MT nD τ sig (HIx 1) (Elt F) ℕ UU ℕ

variable (A : (c : Dev nD) → (w : Fin cfg1.W) → Buf (Elt F) ((cfg1.win w).arr.view.loc (c : Thread nD τ))) (c : Dev nD)

/-- The grid's first point. -/
abbrev tz : Fin cfg1.N := ⟨0, by show 0 < grid1.N; rw [N_1]; decide⟩

/-- A window's block at a point, as the region's arrays hold it: the part that the transfers move. -/
abbrev blkOf (w : Fin cfg1.W) (t : Fin cfg1.N) : ((cfg1.win w).xblock (grid1.coords t)).Idx → Elt F (cfg1.win w).elt :=
  ((cfg1.win w).blk t).view.read (Elt F) (A c w)

/-- A staging buffer just fetched: the block, and `d` on the part past the array's end. -/
abbrev filledWith (w : Fin cfg1.W) (t : Fin cfg1.N) (d : (cfg1.win w).block.Idx → Elt F (cfg1.win w).elt) :
    (cfg1.win w).block.Idx → Elt F (cfg1.win w).elt :=
  (cfg1.win w).fill (grid1.coords t) d (blkOf A c w t)

/-- The gathered features, the first layer's weights and its bias, as the region stages them. -/
def feat : S1024x320.Idx → Elt F .f32 := blkOf A c 0 tz
def wgt1 : S320x64.Idx → Elt F .f32 := blkOf A c 1 tz
def bias1 : S1x64.Idx → Elt F .f32 := blkOf A c 2 tz
/-- THE HIDDEN LAYER. -/
def hid : S1024x64.Idx → Elt F .f32 := k1_pay1 (feat A c) (wgt1 A c) (bias1 A c)

/-- The scratch before point `n`: anything before the first, the hidden layer from then on. -/
def scr (c : Dev nD) (n : ℕ) : sProp 𝕄 :=
  if n = 0 then iprop(∃ f, ((c : Thread nD τ).loc cc1_scratch0) ↦{fullShare} f)
  else iprop(((c : Thread nD τ).loc cc1_scratch0) ↦{fullShare} hid A c)

/-- The waits a core may have on record once the SparseCore call is over. -/
def early (c : Dev nD) : Set (SemLoc sig × HIx 1) := {p | (K (F := F)).lev (T c, p.1) p.2 ≤ 8}

/-- The region's proof data: the arrays, what the body leaves of its inputs, and the scratch. -/
def dat : Dat τ (Elt F) (HIx 1) ℕ UU ℕ cfg1 c where
  A := A c
  after w t := filledWith A c w t fun _ => Classical.arbitrary _
  Φ t := scr A c t.val
  q _ := fullShare
  owed _ := 0
  recorded _ := early (F := F) c

/-- The one window whose contents the data leave open: the result's. -/
abbrev fgt : Fin cfg1.W → Bool := fun | 0 => false | 1 => false | 2 => false | 3 => false | 4 => false | 5 => true | ⟨_ + 6, h⟩ => absurd h (Nat.not_lt.2 (Nat.le_add_left _ _))

/-- What the body leaves in the result's buffer at a point: the second layer's block, of the hidden layer and of the fetched
    weights and bias, whatever these hold past the arrays' end. -/
def Rl : (w : Fin cfg1.W) → Fin cfg1.N → ((cfg1.win w).block.Idx → Elt F (cfg1.win w).elt) → Prop
  | 5, t, X => ∃ (d3 : S64x4096.Idx → Elt F .f32) (d4 : S1x4096.Idx → Elt F .f32),
      X = k1_pay2 (hid A c) (filledWith A c 3 t d3) (filledWith A c 4 t d4)
  | _, _, _ => True

theorem before_0 (t : Fin cfg1.N) (d) : (dat A c).before 0 t d = filledWith A c 0 t d :=
  Dat.before_in_eq_fetched _ 0 rfl (fun _ => rfl) (fun _ _ _ => rfl) (fun _ => Window.cut_fill _ _ (fun _ => Classical.arbitrary _) _) t d
theorem before_1 (t : Fin cfg1.N) (d) : (dat A c).before 1 t d = filledWith A c 1 t d :=
  Dat.before_in_eq_fetched _ 1 rfl (fun _ => rfl) (fun _ _ _ => rfl) (fun _ => Window.cut_fill _ _ (fun _ => Classical.arbitrary _) _) t d
theorem before_2 (t : Fin cfg1.N) (d) : (dat A c).before 2 t d = filledWith A c 2 t d :=
  Dat.before_in_eq_fetched _ 2 rfl (fun _ => rfl) (fun _ _ _ => rfl) (fun _ => Window.cut_fill _ _ (fun _ => Classical.arbitrary _) _) t d
theorem before_3 (t : Fin cfg1.N) (d) : (dat A c).before 3 t d = filledWith A c 3 t d := (dat A c).before_fetched 3 t (fetch1_3 t) d
theorem before_4 (t : Fin cfg1.N) (d) : (dat A c).before 4 t d = filledWith A c 4 t d := (dat A c).before_fetched 4 t (fetch1_4 t) d

/-- An uncut window's buffer holds its block whatever it was filled over. -/
theorem filledWith_0 (t : Fin cfg1.N) (d d') : filledWith A c 0 t d = filledWith A c 0 t d' := Pipeline.fill_of_clip_none 0 _ (fun _ => rfl) _ _ _
theorem filledWith_1 (t : Fin cfg1.N) (d d') : filledWith A c 1 t d = filledWith A c 1 t d' := Pipeline.fill_of_clip_none 1 _ (fun _ => rfl) _ _ _
theorem filledWith_2 (t : Fin cfg1.N) (d d') : filledWith A c 2 t d = filledWith A c 2 t d' := Pipeline.fill_of_clip_none 2 _ (fun _ => rfl) _ _ _

theorem scr_zero : scr A c 0 = iprop(∃ f, ((c : Thread nD τ).loc cc1_scratch0) ↦{fullShare} f) := if_pos rfl
theorem scr_pos {n : ℕ} (h : n ≠ 0) : scr A c n = iprop(((c : Thread nD τ).loc cc1_scratch0) ↦{fullShare} hid A c) := if_neg h

theorem feat_eq (d) : filledWith A c 0 tz d = feat A c := rfl
theorem wgt1_eq (d) : filledWith A c 1 tz d = wgt1 A c := rfl
theorem bias1_eq (d) : filledWith A c 2 tz d = bias1 A c := rfl

theorem Φ_castSucc (t : Fin cfg1.N) : (dat A c).Φ t.castSucc = scr A c t.val := rfl
theorem Φ_succ (t : Fin cfg1.N) : (dat A c).Φ t.succ = iprop(((c : Thread nD τ).loc cc1_scratch0) ↦{fullShare} hid A c) :=
  scr_pos A c (n := t.val + 1) (Nat.succ_ne_zero _)

theorem coords_val (t : Fin cfg1.N) : ((grid1.coords t) 0).val = t.val := by
  have h := Pipeline.Grid.coords_val (G := grid1) t 0 (S := 1) (B := 25) (by decide) (by decide)
  have ht : t.val < 25 := N_1 ▸ t.isLt
  rw [h]; omega

theorem scratch_owns (h : S1024x64.Idx → Elt F .f32) :
    (owns (c : Thread nD τ) (Memref.whole cc1_scratch0 : Memref sig .tc _ _ _) fullShare h : sProp 𝕄)
      ⊢ ((c : Thread nD τ).loc cc1_scratch0) ↦{fullShare} (h : Buf (Elt F) ((c : Thread nD τ).loc cc1_scratch0)) :=
  Entails.of_eq (owns_whole _ _ _ _)

/-- What the data say the body leaves of an input, on the part that the transfers move, is the block. -/
theorem cut_after (w : Fin cfg1.W) (t : Fin cfg1.N) : (cfg1.win w).cut (grid1.coords t) ((dat A c).after w t) = blkOf A c w t :=
  (cfg1.win w).cut_fill (grid1.coords t) (fun _ => Classical.arbitrary _) (blkOf A c w t)

theorem after_0 (t : Fin cfg1.N) (d) : (dat A c).after 0 t = filledWith A c 0 t d := filledWith_0 A c t (fun _ => Classical.arbitrary _) d
theorem after_1 (t : Fin cfg1.N) (d) : (dat A c).after 1 t = filledWith A c 1 t d := filledWith_1 A c t (fun _ => Classical.arbitrary _) d
theorem after_2 (t : Fin cfg1.N) (d) : (dat A c).after 2 t = filledWith A c 2 t d := filledWith_2 A c t (fun _ => Classical.arbitrary _) d

/-- THE BODY'S OBLIGATION at every point: the inputs' buffers are left at their blocks, the result's at the second layer's block, and
    the scratch at the hidden layer. -/
theorem body_obligation (c : Dev nD) :
    BodyObligationRel (dat A c) (defs₀ (F := F)) Variants.none (none : HIx 1) Set.univ fgt (Rl A c) := fun t => by
  rw [bigSep_W1, bigSep_W1]
  simp only
  rw [Φ_castSucc, Φ_succ, show (dat A c).owesAt none t.succ = (dat A c).owesAt none t.castSucc from rfl]
  simp only [before_0, before_1, before_2, before_3, before_4]
  by_cases ht : t.val = 0
  · obtain rfl : t = tz := Fin.ext ht
    rw [show scr A c (tz : Fin cfg1.N).val = _ from scr_zero A c]
    iintro ⟨⟨%f, HΦ⟩, Ho, ⟨%d0, H0⟩, ⟨%d1, H1⟩, ⟨%d2, H2⟩, ⟨%d3, H3⟩, ⟨%d4, H4⟩, ⟨%d5, -, H5⟩⟩
    iapply (body_first (F := F) c (grid1.coords tz) (win1_0.stage (cfg1.slots tz 0)) (hstage1_0 ((cfg1.slots tz 0).cast nbuf1_0))
      (win1_1.stage (cfg1.slots tz 1)) (hstage1_1 ((cfg1.slots tz 1).cast nbuf1_1)) (win1_2.stage (cfg1.slots tz 2)) (hstage1_2 ((cfg1.slots tz 2).cast nbuf1_2))
      (win1_3.stage (cfg1.slots tz 3)) (hstage1_3 ((cfg1.slots tz 3).cast nbuf1_3)) (win1_4.stage (cfg1.slots tz 4)) (hstage1_4 ((cfg1.slots tz 4).cast nbuf1_4))
      (win1_5.stage (cfg1.slots tz 5)) (hstage1_5 ((cfg1.slots tz 5).cast nbuf1_5)) (Memref.whole cc1_scratch0) (Memref.isWhole_whole _)
      ((coords_val tz).trans ht) (feat A c) (wgt1 A c) (bias1 A c) (filledWith A c 3 tz d3) (filledWith A c 4 tz d4) d5 f Set.univ _)
    isplitl [H0 H1 H2 H3 H4 H5 HΦ]
    · isplitl [H0]; · iexact H0
      isplitl [H1]; · iexact H1
      isplitl [H2]; · iexact H2
      isplitl [H3]; · iexact H3
      isplitl [H4]; · iexact H4
      isplitl [H5]; · iexact H5
      rw [owns_whole]; iexact HΦ
    iintro ⟨H0, H1, H2, H3, H4, H5, HΦ⟩
    isplitl [HΦ]; · iapply (scratch_owns (F := F) c _) $$ HΦ
    isplitl [Ho]; · iexact Ho
    isplitl [H0]; · iexact H0
    isplitl [H1]; · iexact H1
    isplitl [H2]; · iexact H2
    isplitl [H3]
    · iexists d3
      rw [show (win1 3).cut (grid1.coords tz) ((dat A c).after 3 tz) = blkOf A c 3 tz from cut_after A c 3 tz]
      iexact H3
    isplitl [H4]
    · iexists d4
      rw [show (win1 4).cut (grid1.coords tz) ((dat A c).after 4 tz) = blkOf A c 4 tz from cut_after A c 4 tz]
      iexact H4
    iexists _; isplitr; rotate_left
    · iexact H5
    · ipureintro; exact ⟨d3, d4, rfl⟩
  · rw [scr_pos A c ht]
    iintro ⟨HΦ, Ho, ⟨%d0, H0⟩, ⟨%d1, H1⟩, ⟨%d2, H2⟩, ⟨%d3, H3⟩, ⟨%d4, H4⟩, ⟨%d5, -, H5⟩⟩
    iapply (body_later (F := F) c (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (win1_3.stage (cfg1.slots t 3)) (hstage1_3 ((cfg1.slots t 3).cast nbuf1_3)) (win1_4.stage (cfg1.slots t 4)) (hstage1_4 ((cfg1.slots t 4).cast nbuf1_4))
      (win1_5.stage (cfg1.slots t 5)) (hstage1_5 ((cfg1.slots t 5).cast nbuf1_5)) (Memref.whole cc1_scratch0) (Memref.isWhole_whole _)
      (fun e => ht ((coords_val t).symm.trans e)) (filledWith A c 3 t d3) (filledWith A c 4 t d4) d5 (hid A c) Set.univ _)
    isplitl [H3 H4 H5 HΦ]
    · isplitl [H3]; · iexact H3
      isplitl [H4]; · iexact H4
      isplitl [H5]; · iexact H5
      rw [owns_whole]; iexact HΦ
    iintro ⟨H3, H4, H5, HΦ⟩
    isplitl [HΦ]; · iapply (scratch_owns (F := F) c _) $$ HΦ
    isplitl [Ho]; · iexact Ho
    isplitl [H0]; · rw [after_0 A c t d0]; iexact H0
    isplitl [H1]; · rw [after_1 A c t d1]; iexact H1
    isplitl [H2]; · rw [after_2 A c t d2]; iexact H2
    isplitl [H3]
    · iexists d3
      rw [show (win1 3).cut (grid1.coords t) ((dat A c).after 3 t) = blkOf A c 3 t from cut_after A c 3 t]
      iexact H3
    isplitl [H4]
    · iexists d4
      rw [show (win1 4).cut (grid1.coords t) ((dat A c).after 4 t) = blkOf A c 4 t from cut_after A c 4 t]
      iexact H4
    iexists _; isplitr; rotate_left
    · iexact H5
    · ipureintro; exact ⟨d3, d4, rfl⟩

/-! ## The region -/

/-- The region's data, the result's window held to what the body leaves. -/
abbrev rdat : RDat τ (Elt F) (HIx 1) ℕ UU ℕ cfg1 c := (dat A c).toRRel fgt (Rl A c)

/-- WHAT THE RESULT'S ARRAY MAY HOLD AFTER THE REGION: what some choice of blocks leaves, each the second layer's at its point. -/
def Res (r : Buf (Elt F) ((c : Thread nD τ).loc main_v6)) : Prop :=
  ∃ after : (w' : Fin cfg1.W) → Fin cfg1.N → (cfg1.win w').block.Idx → Elt F (cfg1.win w').elt,
    (∀ u : Fin cfg1.N, Rl A c 5 u (after 5 u)) ∧ r = ((rdat A c).withAfter after).arrAt 5 cfg1.N

/-- No pipeline has a prefetched table. -/
abbrev adm : (p : Fin 1) → (pcfgs (F := F) p).Adm := fun p => (cfgs p).toPCfg_adm

/-- The one pipeline's data. -/
def rdats : (p : Fin 1) → (c : Dev nD) → RDat τ (Elt F) (HIx 1) ℕ UU ℕ (Pipeline.pin (pcfgs (F := F)) adm p) c
  | 0 => fun c => rdat A c

theorem share_full (w : Fin cfg1.W) : (rdats A 0 c).share w = fullShare := (dat A c).share_full (fun _ => rfl) w

/-- The six arrays, held whole at given contents. -/
def six (V : (w : Fin cfg1.W) → Buf (Elt F) ((cfg1.win w).arr.view.loc (c : Thread nD τ))) : sProp 𝕄 :=
  iprop((((c : Thread nD τ).loc main_v3) ↦{fullShare} V 0) ∗ (((c : Thread nD τ).loc main_arg2) ↦{fullShare} V 1)
    ∗ (((c : Thread nD τ).loc main_v4) ↦{fullShare} V 2) ∗ (((c : Thread nD τ).loc main_arg4) ↦{fullShare} V 3)
    ∗ (((c : Thread nD τ).loc main_v5) ↦{fullShare} V 4) ∗ (((c : Thread nD τ).loc main_v6) ↦{fullShare} V 5))

theorem arrays_six (V : (w : Fin cfg1.W) → Buf (Elt F) ((cfg1.win w).arr.view.loc (c : Thread nD τ))) :
    (rdats A 0 c).arrays V = six c V := by
  rw [Pipeline.RDat.arrays_eq (pcfgs (F := F)) adm (rdats A) (p := 0) c arr_whole1 (share_full A c)]
  exact bigSep_W1 _

/-- What the core owes when it enters the region and when it leaves it: nothing. -/
def noDebt (c : Dev nD) : sProp 𝕄 := iprop(∃ W, ⌜(K (F := F)).WBelow (T c) W 8⌝ ∗ owes (c : Thread nD τ) (0 : CellTallies nD τ sig (HIx 1)) W)

/-- The arrays as the region leaves them. -/
def left : sProp 𝕄 :=
  iprop((((c : Thread nD τ).loc main_v3) ↦{fullShare} A c 0) ∗ (((c : Thread nD τ).loc main_arg2) ↦{fullShare} A c 1)
    ∗ (((c : Thread nD τ).loc main_v4) ↦{fullShare} A c 2) ∗ (((c : Thread nD τ).loc main_arg4) ↦{fullShare} A c 3)
    ∗ (((c : Thread nD τ).loc main_v5) ↦{fullShare} A c 4) ∗ (∃ r, ⌜Res A c r⌝ ∗ (((c : Thread nD τ).loc main_v6) ↦{fullShare} r)))

/-- An input's array is as it was. -/
theorem kept (w : Fin cfg1.W) (hw : (cfg1.win w).isOut = false) {G} (h : (rdat A c).ArrAt w cfg1.N G) : G = A c w := by
  obtain ⟨X, -, hA⟩ := h.exists_exact
  rw [hA (fun _ _ _ => Classical.arbitrary _) fun u _ hf => by rw [Window.flush_in _ hw] at hf; cases hf]
  exact Dat.arrAt_in _ w hw _

/-- The result's array is what some blocks of the second layer leave. -/
theorem res_of_arrAt {G} (h : (rdat A c).ArrAt 5 cfg1.N G) : Res A c G := by
  obtain ⟨X, hX, hA⟩ := h.exists_exact
  refine ⟨Function.update (fun _ _ _ => Classical.arbitrary _) 5 X, fun u => ?_, hA _ fun u _ _ => by rw [Function.update_self]⟩
  rw [Function.update_self]
  exact Dat.toRRel_leaves (dat A c) rfl (hX u u.isLt (flush1_5 u))

theorem arraysAt_left : (rdats A 0 c).arraysAt cfg1.N ⊢ left A c := by
  rw [Pipeline.RDat.arraysAt_eq (pcfgs (F := F)) adm (rdats A) (p := 0) c arr_whole1 (share_full A c)]
  refine (Entails.of_eq (bigSep_W1 _)).trans ?_
  unfold left
  iintro ⟨⟨%g0, %h0, H0⟩, ⟨%g1, %h1, H1⟩, ⟨%g2, %h2, H2⟩, ⟨%g3, %h3, H3⟩, ⟨%g4, %h4, H4⟩, ⟨%g5, %h5, H5⟩⟩
  obtain rfl := kept A c 0 rfl h0
  obtain rfl := kept A c 1 rfl h1
  obtain rfl := kept A c 2 rfl h2
  obtain rfl := kept A c 3 rfl h3
  obtain rfl := kept A c 4 rfl h4
  isplitl [H0]; · iexact H0
  isplitl [H1]; · iexact H1
  isplitl [H2]; · iexact H2
  isplitl [H3]; · iexact H3
  isplitl [H4]; · iexact H4
  iexists g5
  isplitr; · ipureintro; exact res_of_arrAt A c h5
  iexact H5

variable (L : GSem nD τ sig → Finset (HIx 1)) (lv : GSem nD τ sig → HIx 1 → ℕ)

set_option backward.isDefEq.respectTransparency.types false in
/-- THE REGION: entered with the six arrays at the data's contents, left with the inputs' as they were and the result's at the second
    layer's blocks. -/
def reg : RDat.RegionSeg (pcfgs (F := F)) adm (rdats A) (none : HIx 1) defs₀ Variants.none L lv 0 where
  win := (launch1).win.to₀
  block_pos := (launch1).block_pos
  stage_whole := (launch1).stage_whole
  K := PEmpty
  osem k := k.elim
  ho := Pipeline.OwnSemFacts.none _
  hbody c := (body_obligation A c).toRRel
  hwaits := RDat.hwaits_of_owed_zero _ _ _ _ L lv 0 fun _ _ => rfl
  pre c := iprop(six c (A c) ∗ noDebt c)
  post c := iprop(left A c ∗ noDebt c)
  X _ := BI.emp
  Y _ := BI.emp
  Z _ := BI.emp
  hentry c := by
    rw [Pipeline.ownSems0_none]
    iintro ⟨⟨Ha, HO⟩, -, -⟩
    imodintro
    isplitl [Ha]; · iapply (Entails.of_eq (arrays_six A c (A c)).symm); iexact Ha
    isplitr; · unfold Pipeline.prefHeld; rw [show (Finset.univ : Finset (Fin 0)) = ∅ from rfl, BI.bigSep_empty]; iempintro
    isplitl [HO]
    · unfold RDat.owesAt Pipeline.owesWithin noDebt
      icases HO with ⟨%W, %hW, HO⟩; iexists W; isplitr; · ipureintro; exact fun p hp => Or.inl (hW p hp)
      iexact HO
    isplitr <;> iempintro
  hin c := by
    rw [show (rdats A 0 c).Φ 0 = scr A c 0 from rfl, scr_zero]
    iintro ⟨-, -, Hr⟩
    iapply (Entails.of_eq (scopedRest1_eq c)); iexact Hr
  hout c := by
    rw [Pipeline.ownSems0_none, show (rdats A 0 c).Φ (Fin.last _) = scr A c cfg1.N from rfl, scr_pos A c (n := cfg1.N) (by rw [show cfg1.N = 25 from N_1]; decide)]
    iintro Hr
    isplitr; · iempintro
    isplitr; · iempintro
    iapply (Entails.of_eq (scopedRest1_eq c).symm); iexists _; iexact Hr
  hexit c := by
    iintro ⟨Ha, HO, -, -⟩
    imodintro
    isplitl [Ha]; · iapply (arraysAt_left A c); iexact Ha
    unfold RDat.owesAt Pipeline.owesWithin noDebt
    icases HO with ⟨%W, %hW, HO⟩; iexists W
    isplitr; rotate_left; · iexact HO
    ipureintro
    intro p hp
    rcases hW hp with h | ⟨w, s, rfl⟩
    · exact h
    · exact Nat.zero_le _

end Cert.EmbedMlp

end
-- ==== Proof.Main.lean ====
/-
  @main AND THE WHOLE RUN: the reshapes, the SparseCore call and the TensorCore region in order, from the launch memory; what the
  program's memory holds at the end.
-/
module

public import proofs.«01_k».proof.Proof.Split
public import proofs.«01_k».proof.Proof.Region

@[expose] public section

noncomputable section

namespace Cert.EmbedMlp

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A reshape on the host -/

/-- A reshape from one whole array to another leaves the first as it was and the second at the first's elements in row-major order. -/
theorem reshape_step (d : Dev nD) {x y : Ref sig .tc} (he : x.ty.elt = y.ty.elt) (hn : x.ty.shape.ShapeCasts y.ty.shape) (hx hy) (hxy : x ≠ y)
    (V : Valuation τ sig (Elt F)) (f : Buf (Elt F) ((SparseCore.T d).loc x)) (g : Buf (Elt F) ((SparseCore.T d).loc y)) {α : Type}
    (k : ((b : (StableHlo.reshape (τ := τ) (Val := Elt F) x y he hn hx hy).writes) → b.1.ty.Contents (Elt F)) →
      Prog (TpuEff nD τ sig (Elt F) (SparseCore.Sig (ΛP (F := F)) 1) (SparseCore.T d).2) α) (v : α) (hk : k = fun _ => .ret v) (Q : α → sProp 𝕄) :
    iprop(boundary (SparseCore.T d) ∗ ((SparseCore.T d).loc x ↦{fullShare} f) ∗ ((SparseCore.T d).loc y ↦{fullShare} g))
      ⊢ iprop(((boundary (SparseCore.T d) ∗ ((SparseCore.T d).loc x ↦{fullShare} f)
            ∗ ((SparseCore.T d).loc y ↦{fullShare} ((fun i => he ▸ shapeCast y.ty.shape (f : x.ty.Contents (Elt F)) hn i : y.ty.Contents (Elt F)) : Buf (Elt F) ((SparseCore.T d).loc y)))) -∗ Q v)
        -∗ wp frame (wpE ((K (F := F)).defs (D (F := F))) 𝒱 (SparseCore.T d) none) Set.univ
            (hlo rfl (StableHlo.reshape x y he hn hx hy) k) Q) := by
  subst hk
  have hne : (Proc.devRef (τ := τ) .tc x) ≠ Proc.devRef .tc y := fun e => hxy (Proc.devRef_injective _ e)
  let W : Valuation τ sig (Elt F) := Function.update (Function.update V (Proc.devRef .tc x) f) (Proc.devRef .tc y) g
  have hWx : W (Proc.devRef .tc x) = f := (Function.update_of_ne hne _ _).trans (Function.update_self _ _ _)
  have hWy : W (Proc.devRef .tc y) = g := Function.update_self _ _ _
  have hbufs : ∀ Z : Valuation τ sig (Elt F), (bigSep (StableHlo.reshape (τ := τ) (Val := Elt F) x y he hn hx hy).bufs fun b => (((SparseCore.T d).1, b) : Loc nD τ sig) ↦{fullShare} Z b)
      = (iprop(((SparseCore.T d).loc x ↦{fullShare} Z (Proc.devRef .tc x)) ∗ ((SparseCore.T d).loc y ↦{fullShare} Z (Proc.devRef .tc y))) : sProp 𝕄) := fun Z => by
    rw [StableHlo.reshape_bufs, SparseCore.bigSep_insert' (by rw [Finset.mem_singleton]; exact hne), bigSep_singleton]
  have h := wp_hlo (Γ := .empty) 𝒱 (SparseCore.T d) none Set.univ (defs := (K (F := F)).defs (D (F := F))) (hp := rfl) (op := StableHlo.reshape (τ := τ) (Val := Elt F) x y he hn hx hy)
    (k := fun _ => .ret v) (q := fun _ => fullShare) (F := W) (Q := Q) (fun _ _ => rfl)
  rw [hbufs, hbufs, StableHlo.reshape_result, StableHlo.reshape_result_ne (h := hxy), hWx, hWy, wp_ret] at h
  iintro H Hk
  iapply h $$ H
  iintro H
  imodintro
  iapply Hk
  iexact H

/-! ## The contents of the arrays -/

section Run

variable (m : (ℓ : Loc nD τ sig) → Buf (Elt F) ℓ) (ρ : Dev nD → PrngReg)

/-- The indices in one row. -/
def flatIdx (d : Dev nD) : S20480.Idx → BitVec 32 :=
  shapeCast S20480 (m ((d : Thread nD τ).loc main_arg0) : S1024x20.Idx → BitVec 32) shapeCasts_S1024x20_S20480
/-- The tasks' index rows. -/
def idxRows (d : Dev nD) : Buf (Elt F) (idxLoc d) := (shapeCast S32x5x128 (flatIdx m d) shapeCasts_S20480_S32x5x128 : S32x5x128.Idx → BitVec 32)
/-- The table. -/
def table (d : Dev nD) : Buf (Elt F) (tabLoc d) := m (tabLoc d)
/-- What the row array holds at launch. -/
def rows0 (d : Dev nD) : Buf (Elt F) (rowLoc d) := m (rowLoc d)

/-- The six arrays of the region as it is entered: the gathered rows, one batch element to a row, the weights and the biases of the two
    layers, and the result's array as it was at launch. -/
def arrs (c : Dev nD) : (w : Fin cfg1.W) → Buf (Elt F) ((cfg1.win w).arr.view.loc (c : Thread nD τ))
  | 0 => (shapeCast S1024x320 (gathered c (idxRows m c) (table m c) : S20480x16.Idx → Elt F .f32) shapeCasts_S20480x16_S1024x320 : S1024x320.Idx → Elt F .f32)
  | 1 => m ((c : Thread nD τ).loc main_arg2)
  | 2 => (shapeCast S1x64 (m ((c : Thread nD τ).loc main_arg3) : S64.Idx → Elt F .f32) shapeCasts_S64_S1x64 : S1x64.Idx → Elt F .f32)
  | 3 => m ((c : Thread nD τ).loc main_arg4)
  | 4 => (shapeCast S1x100000 (m ((c : Thread nD τ).loc main_arg5) : S100000.Idx → Elt F .f32) shapeCasts_S100000_S1x100000 : S1x100000.Idx → Elt F .f32)
  | 5 => m ((c : Thread nD τ).loc main_v6)
  | ⟨_ + 6, h⟩ => absurd h (Nat.not_lt.2 (Nat.le_add_left _ _))

/-- Array `b` of the TensorCore, whole, at its launch contents. -/
abbrev atLaunch (d : Dev nD) (b : Ref sig .tc) : sProp 𝕄 := iprop(((SparseCore.T d).loc b) ↦{fullShare} m ((SparseCore.T d).loc b))

theorem unscopedBufs_eq (d : Dev nD) :
    (unscopedBufs d (fun b => m ((d.tc : Thread nD τ).loc b)) : sProp 𝕄)
      = iprop(atLaunch m d main_arg0 ∗ atLaunch m d main_arg1 ∗ atLaunch m d main_arg2 ∗ atLaunch m d main_arg3 ∗ atLaunch m d main_arg4 ∗ atLaunch m d main_arg5
          ∗ atLaunch m d main_v0 ∗ atLaunch m d main_v1 ∗ atLaunch m d main_v2 ∗ atLaunch m d main_v3 ∗ atLaunch m d main_v4 ∗ atLaunch m d main_v5 ∗ atLaunch m d main_v6) := by
  unfold unscopedBufs
  rw [show (Finset.univ.filter fun b : Ref sig .tc => ¬ b.isScoped)
      = {main_arg0, main_arg1, main_arg2, main_arg3, main_arg4, main_arg5, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The launch element of the ghost state -/

/-- The handshakes' cells, the region's staging cells with their transfers, no counter. -/
def u₀ : UU := (initOf (K (F := F)).hsCells (K (F := F)).hsToks, (initOf (Pipeline.cells (τ := τ) cfgs cellOf_inj) (Pipeline.launchToks cfgs cellOf_inj), 1))

/-- What the region's entry takes of it on device `d`. -/
abbrev G (d : Dev nD) : sProp 𝕄 := iprop((bigSep Finset.univ fun p => Pipeline.cellsGhost cfgs (EP (F := F)) p d) ∗ bigSep Finset.univ fun p => Pipeline.toksInit cfgs (EP (F := F)) p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (idxRows m) (table m) (rows0 m)).x q thr) := by
  unfold u₀
  iintro Hu
  ihave H := (ownU_pair (initOf (K (F := F)).hsCells (K (F := F)).hsToks) ((initOf (Pipeline.cells (τ := τ) cfgs cellOf_inj) (Pipeline.launchToks cfgs cellOf_inj), 1) : UP × Counters)) $$ Hu
  icases H with ⟨HH, HR⟩
  ihave HR' := (own_pair_emb (embR : Emb (UP × Counters) 𝕄) (initOf (Pipeline.cells (τ := τ) cfgs cellOf_inj) (Pipeline.launchToks cfgs cellOf_inj)) (1 : Counters)) $$ HR
  icases HR' with ⟨HP, -⟩
  imod (Pipeline.fund_ghost cfgs (EP (F := F)) cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) (idxRows m) (table m) (rows0 m)).x q thr) = bigSep Finset.univ fun _ => iprop(emp) from
    bigSep_congr fun _ _ => bigSep_univ_of_subsingleton (0 : Fin 1), bigSep_emp']
  iempintro

/-! ## @main -/

/-- What @main leaves the claims: the six arguments as they were, and the result. -/
abbrev FIN (d : Dev nD) : sProp 𝕄 :=
  iprop(atLaunch m d main_arg0 ∗ atLaunch m d main_arg1 ∗ atLaunch m d main_arg2 ∗ atLaunch m d main_arg3 ∗ atLaunch m d main_arg4 ∗ atLaunch m d main_arg5
    ∗ ∃ r, ⌜Res (arrs m) d r⌝ ∗ ((SparseCore.T d).loc main_v6 ↦{fullShare} r))

theorem pin_inj : Function.Injective (Pipeline.cellOf (nD := nD) (τ := τ) (Pipeline.pin (pcfgs (F := F)) adm)) := cellOf_inj

/-- The region's call under the regions' own body table. -/
theorem region_inner (d : Dev nD) (Q : PUnit.{1} → sProp 𝕄) :
    iprop((iprop(boundary (d.tc : Thread nD τ) ∗ left (arrs m) d ∗ noDebt d) -∗ wp frame (wpE (D (F := F)) 𝒱 (d.tc : Thread nD τ) none) Set.univ (.ret ⟨⟩) Q)
        ∗ boundary (d.tc : Thread nD τ) ∗ (six d (arrs m d) ∗ noDebt d) ∗ levAts (K (F := F)).L (K (F := F)).lev
        ∗ Pipeline.cellsGhost cfgs (EP (F := F)) 0 d ∗ Pipeline.toksInit cfgs (EP (F := F)) 0 d)
      ⊢ wp frame (wpE (D (F := F)) 𝒱 (d.tc : Thread nD τ) none) Set.univ (.op (.customCall (Pipeline.entry 0) ()) fun x => .ret x) Q :=
  Pipeline.RDat.RegionSeg.wp (pcfgs (F := F)) adm (rdats (arrs m)) (none : HIx 1) pin_inj (EP (F := F)) defs₀ Variants.none
    (K (F := F)).L (K (F := F)).lev (reg (arrs m) (K (F := F)).L (K (F := F)).lev) d none (fun u hu => nomatch hu) (fun x => .ret x) Q

/-- The region's call as the program makes it is its call under the regions' own labels, lifted. -/
theorem lifted : (SparseCore.liftProg (Q := 1) (Prog.lift (.customCall (Pipeline.entry 0) ()) : Prog (TpuEff nD τ sig (Elt F) (ΛP (F := F)) .tc) PUnit)
      : Prog (TpuEff nD τ sig (Elt F) (SparseCore.Sig (ΛP (F := F)) 1) .tc) PUnit)
    = Prog.lift (.customCall (SparseCore.inner (Pipeline.entry 0)) ()) := rfl

/-- The same, from the ghost state as the launch deals it. -/
theorem region_dealt (d : Dev nD) (Q : PUnit.{1} → sProp 𝕄) :
    iprop(((boundary (SparseCore.T d) ∗ left (arrs m) d ∗ noDebt d) -∗ Q ⟨⟩)
        ∗ boundary (SparseCore.T d) ∗ (six d (arrs m d) ∗ noDebt d) ∗ levAts (K (F := F)).L (K (F := F)).lev ∗ G (F := F) d)
      ⊢ wp frame (wpE (D (F := F)) 𝒱 (SparseCore.T d) none) Set.univ (.op (.customCall (Pipeline.entry 0) ()) fun x => .ret x) Q := by
  have h := region_inner m d Q
  rw [wp_ret] at h
  rw [show G (F := F) d = iprop(Pipeline.cellsGhost cfgs (EP (F := F)) 0 d ∗ Pipeline.toksInit cfgs (EP (F := F)) 0 d) from
    congrArg₂ _ (bigSep_univ_of_subsingleton (0 : Fin 1)) (bigSep_univ_of_subsingleton (0 : Fin 1))]
  iintro ⟨Hk, Hb, Hp, Hl, Hg, Ht⟩
  iapply h
  isplitl [Hk]
  · iintro H
    imodintro
    iapply Hk; iexact H
  isplitl [Hb]; · iexact Hb
  isplitl [Hp]; · iexact Hp
  isplitl [Hl]; · iexact Hl
  isplitl [Hg]; · iexact Hg
  iexact Ht

/-- THE REGION'S CALL, under the whole program's body table. -/
theorem region_step (d : Dev nD) (Q : PUnit.{1} → sProp 𝕄) :
    iprop(((boundary (SparseCore.T d) ∗ left (arrs m) d ∗ noDebt d) -∗ Q ⟨⟩)
        ∗ boundary (SparseCore.T d) ∗ (six d (arrs m d) ∗ noDebt d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit) Q := by
  rw [← lifted]
  exact (region_dealt m d Q).trans ((K (F := F)).wp_liftProg (D (F := F)) 𝒱 (SparseCore.T d) Set.univ none _ Q)

theorem no_more (d : Dev nD) : (K (F := F)).Otc (N := 1) d 1 = 0 := (K (F := F)).Otc_end d (le_refl 1)

/-- @MAIN on device `d`'s TensorCore. -/
theorem hmain (κ : GSem nD τ sig → ℕ) (d : Dev nD) :
    iprop((K (F := F)).ctx EH (P (idxRows m) (table m) (rows0 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨A0, A1, A2, A3, A4, A5, V0, V1, V2, V3, V4, V5, V6⟩, Hts, -⟩, HG⟩
  -- the indices to one row, and to the tasks' rows
  iapply (reshape_step d (x := main_arg0) (y := main_v0) rfl shapeCasts_S1024x20_S20480 _ _ (by decide) (fun b => m (d, b)) _ _ _ PUnit.unit rfl _) $$ [Hb A0 V0]
  · isplitl [Hb]; · iexact Hb
    isplitl [A0]; · iexact A0
    iexact V0
  iintro ⟨Hb, A0, V0⟩
  iapply (reshape_step d (x := main_v0) (y := main_v1) rfl shapeCasts_S20480_S32x5x128 _ _ (by decide) (fun b => m (d, b)) _ _ _ PUnit.unit rfl _) $$ [Hb V0 V1]
  · isplitl [Hb]; · iexact Hb
    isplitl [V0]; · iexact V0
    iexact V1
  iintro ⟨Hb, V0, V1⟩
  -- the SparseCore call
  iapply ((K (F := F)).wp_run (D (F := F)) 𝒱 (EH := EH) (P := P (idxRows m) (table m) (rows0 m)) κ d 0) $$ [Hst Hb A0 A1 A2 A3 A4 A5 V0 V1 V2 V3 V4 V5 V6 Hts HG]
  isplitr; · iexact Hctx
  isplitl [Hst]; · iexact Hst
  isplitl [A1 V1 V2]
  · rw [st_eq]
    isplitl [V1]; · iexact V1
    isplitl [A1]; · iexact A1
    iexact V2
  iintro ⟨Hst, Hdn⟩
  ihave Hdn' := (Entails.of_eq (dn_eq (idxRows m) (table m) (rows0 m) d)) $$ Hdn
  icases Hdn' with ⟨V1, A1, V2⟩
  -- the gathered rows to one row per batch element, and the biases to a row each
  iapply (reshape_step d (x := main_v2) (y := main_v3) rfl shapeCasts_S20480x16_S1024x320 _ _ (by decide) (fun b => m (d, b)) _ _ _ PUnit.unit rfl _) $$ [Hb V2 V3]
  · isplitl [Hb]; · iexact Hb
    isplitl [V2]; · iexact V2
    iexact V3
  iintro ⟨Hb, V2, V3⟩
  iapply (reshape_step d (x := main_arg3) (y := main_v4) rfl shapeCasts_S64_S1x64 _ _ (by decide) (fun b => m (d, b)) _ _ _ PUnit.unit rfl _) $$ [Hb A3 V4]
  · isplitl [Hb]; · iexact Hb
    isplitl [A3]; · iexact A3
    iexact V4
  iintro ⟨Hb, A3, V4⟩
  iapply (reshape_step d (x := main_arg5) (y := main_v5) rfl shapeCasts_S100000_S1x100000 _ _ (by decide) (fun b => m (d, b)) _ _ _ PUnit.unit rfl _) $$ [Hb A5 V5]
  · isplitl [Hb]; · iexact Hb
    isplitl [A5]; · iexact A5
    iexact V5
  iintro ⟨Hb, A5, V5⟩
  -- the region
  ihave #Hl := (SparseCore.Cfg.ctx_levAts κ) $$ Hctx
  ihave Hst := (show (K (F := F)).tcSt EH d ((0 : Fin 1).val + 1) ⊢ (K (F := F)).tcSt EH d 1 from BI.Entails.refl _) $$ Hst
  ihave Hst' := (Entails.of_eq (show (K (F := F)).tcSt EH d 1 = _ by unfold SparseCore.Cfg.tcSt; rfl)) $$ Hst
  icases Hst' with ⟨⟨%W, %hW, HO⟩, Hst⟩
  iapply (region_step m d _)
  isplitl [Hst A0 A1 A3 A5 Hts]
  · unfold left noDebt
    iintro ⟨Hb, ⟨-, A2, -, A4, -, R⟩, ⟨%W', %hW', HO⟩⟩
    imodintro
    isplitl [Hst HO]
    · unfold SparseCore.Cfg.tcSt
      isplitl [HO]
      · rw [no_more]
        iexists W'; isplitr; · ipureintro; exact hW'
        iexact HO
      iexact Hst
    isplitr [Hb Hts]
    · isplitl [A0]; · iexact A0
      isplitl [A1]; · iexact A1
      isplitl [A2]; · iexact A2
      isplitl [A3]; · iexact A3
      isplitl [A4]; · iexact A4
      isplitl [A5]; · iexact A5
      iexact R
    isplitl [Hb] <;> iassumption
  isplitl [Hb]; · iexact Hb
  isplitl [V3 A2 V4 A4 V5 V6 HO]
  · isplitl [V3 A2 V4 A4 V5 V6]
    · unfold six
      isplitl [V3]; · iexact V3
      isplitl [A2]; · iexact A2
      isplitl [V4]; · iexact V4
      isplitl [A4]; · iexact A4
      isplitl [V5]; · iexact V5
      iexact V6
    unfold noDebt
    iexists W; isplitr; · ipureintro; exact hW
    iapply (Entails.of_eq (show (owes (SparseCore.T d) ((K (F := F)).Otc d 1) W : sProp 𝕄) = owes (SparseCore.T d) 0 W by rw [no_more])); iexact HO
  isplitr; · iexact Hl
  iexact HG

/-! ## The run -/

/-- What the claims read of device `d`'s final memory. -/
def fq (d : Dev nD) (s : MemSt nD τ sig (Elt F)) : Prop :=
  (s.mem ((SparseCore.T d).loc main_arg0) = m ((SparseCore.T d).loc main_arg0) ∧ s.mem ((SparseCore.T d).loc main_arg1) = m ((SparseCore.T d).loc main_arg1)
    ∧ s.mem ((SparseCore.T d).loc main_arg2) = m ((SparseCore.T d).loc main_arg2) ∧ s.mem ((SparseCore.T d).loc main_arg3) = m ((SparseCore.T d).loc main_arg3)
    ∧ s.mem ((SparseCore.T d).loc main_arg4) = m ((SparseCore.T d).loc main_arg4) ∧ s.mem ((SparseCore.T d).loc main_arg5) = m ((SparseCore.T d).loc main_arg5))
  ∧ Res (arrs m) d (s.mem ((SparseCore.T d).loc main_v6))

/-- An array held whole is what the memory has of it. -/
theorem agree (d : Dev nD) (b : Ref sig .tc) (f : Buf (Elt F) ((SparseCore.T d).loc b)) (s' : Phys nD τ sig (Elt F)) :
    iprop(((SparseCore.T d).loc b ↦{fullShare} f) ∗ SI s') ⊢ (iprop(⌜s'.mem.mem ((SparseCore.T d).loc b) = f⌝ ∗ SI s') : sProp 𝕄) := by
  iintro ⟨H, HSI⟩
  ihave H := (persistent_entails_right (SI_pointsTo_agree (st := s') (ℓ := (SparseCore.T d).loc b) (I := Finset.univ) (q := fullShare) (f := f))) $$ [HSI H]
  · isplitl [HSI] <;> iassumption
  icases H with ⟨%h, HSI, -⟩
  isplitr
  · ipureintro; exact funext fun i => h i (by simp)
  iexact HSI

theorem hfin (d : Dev nD) (s' : Phys nD τ sig (Elt F)) : iprop(FIN m d ∗ SI s') ⊢ (⌜fq m d s'.mem⌝ : sProp 𝕄) := by
  iintro ⟨⟨A0, A1, A2, A3, A4, A5, ⟨%r, %hr, R⟩⟩, HSI⟩
  ihave H := (agree d main_arg0 _ s') $$ [A0 HSI]
  · isplitl [A0] <;> iassumption
  icases H with ⟨%h0, HSI⟩
  ihave H := (agree d main_arg1 _ s') $$ [A1 HSI]
  · isplitl [A1] <;> iassumption
  icases H with ⟨%h1, HSI⟩
  ihave H := (agree d main_arg2 _ s') $$ [A2 HSI]
  · isplitl [A2] <;> iassumption
  icases H with ⟨%h2, HSI⟩
  ihave H := (agree d main_arg3 _ s') $$ [A3 HSI]
  · isplitl [A3] <;> iassumption
  icases H with ⟨%h3, HSI⟩
  ihave H := (agree d main_arg4 _ s') $$ [A4 HSI]
  · isplitl [A4] <;> iassumption
  icases H with ⟨%h4, HSI⟩
  ihave H := (agree d main_arg5 _ s') $$ [A5 HSI]
  · isplitl [A5] <;> iassumption
  icases H with ⟨%h5, HSI⟩
  ihave H := (agree d main_v6 r s') $$ [R HSI]
  · isplitl [R] <;> iassumption
  icases H with ⟨%h6, -⟩
  ipureintro
  refine ⟨⟨h0, h1, h2, h3, h4, h5⟩, ?_⟩
  rw [h6]; exact hr

/-- What the program's memory is at the end. -/
def QC : PUnit × MemSt nD τ sig (Elt F) → Prop := fun r => (∀ d : Dev nD, fq m d r.2) ∧ r.2.sem = fun _ => 0

/-- THE RUN: from every launch memory whose index words name rows of the table, the program terminates with its arguments unchanged, the
    result at the second layer's blocks and every semaphore at zero. -/
theorem run_main (hiv : ∀ (d : Dev nD) (y : S32x5x128.Idx), ((idxRows m d : S32x5x128.Idx → BitVec 32) y).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (idxRows m) (table m) (rows0 m)) (A := ∅) facts v₀
    (fun q hq => match q with | 0 => nomatch hq)
    (fun q _ => match q with | 0 => tileObl (idxRows m) (table m) (rows0 m) facts hiv)
    (fun q _ => match q with | 0 => SparseCore.Cfg.VecSplit.of_plain (vecSplit (idxRows m) (table m) (rows0 m)))
    m ρ main (fun d => G (F := F) d) (FIN m) (u₀ (F := F)) (sep_elim_left.trans (hu₀ m)) (hmain m ρ) (fun d s' => fq m d s'.mem) (hfin m) (QC m) (fun _ h hz => ⟨h, hz⟩)

end Run

end Cert.EmbedMlp

end
-- ==== Proof.InRange.lean ====
/-
  THE PRECONDITION, read as bounds: every index word names a row of the table.
-/
module

public import proofs.«01_k».proof.Proof.Main
public import proofs.«01_k».proof.Proof.Gen.Pre_in_range
public import Idealize.ShloMosaic.Lib.ReduceAll
public import Idealize.ShloMosaic.Lib.Pipeline.Value

@[expose] public section

noncomputable section

namespace Cert.EmbedMlp

open Idealize.ShloMosaic

/-- The conjunction of two truth words is the truth word of the conjunction. -/
theorem andi_ofBool (p q : Bool) : IntOp.andi (BitVec.ofBool p) (BitVec.ofBool q) = BitVec.ofBool (p && q) := by
  cases p <;> cases q <;> decide

/-- A truth word is one when what it says is true. -/
theorem ofBool_eq_one (p : Bool) : BitVec.ofBool p = 1#1 ↔ p = true := by
  cases p <;> decide

/-- A word that is at least zero and below a hundred thousand, as signed numbers, is below a hundred thousand. -/
theorem lt_of_signed (v : BitVec 32) (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

variable {F : FTy → Type} [FloatOps F] [Cert.Pre_in_range.Facts]

/-- UNDER THE PRECONDITION every index word is below the table's row count. -/
theorem word_lt (x0 : IVec Cert.Pre_in_range.S1024x20 32) (x1 : FVec F Cert.Pre_in_range.S100000x16 .f32) (x2 : FVec F Cert.Pre_in_range.S320x64 .f32)
    (x3 : FVec F Cert.Pre_in_range.S64 .f32) (x4 : FVec F Cert.Pre_in_range.S64x100000 .f32) (x5 : FVec F Cert.Pre_in_range.S100000 .f32)
    (h : Cert.Pre_in_range.fn x0 x1 x2 x3 x4 x5 = fun _ => 1#1) (i : Cert.Pre_in_range.S1024x20.Idx) : (x0 i).toNat < 100000 := by
  haveI : Subsingleton Cert.Pre_in_range.S_.Idx := ⟨fun a b => funext fun k => k.elim0⟩
  have e := Host.reduce_andi_all _ _ _ _ (fun k => k.elim0) (congrFun h fun k => k.elim0) i
  exact lt_of_signed _ e

/-- A reshape of a reshape of words below a hundred thousand is of words below a hundred thousand: the tasks' index rows. -/
theorem idxRows_lt (m : (ℓ : Loc Cert.KernelIdeal.nD Cert.KernelIdeal.τ Cert.KernelIdeal.sig) → Buf (Elt F) ℓ)
    (h : ∀ (d : Dev Cert.KernelIdeal.nD) (i : Cert.KernelIdeal.S1024x20.Idx),
      ((m ((d.tc : Thread Cert.KernelIdeal.nD Cert.KernelIdeal.τ).loc Cert.KernelIdeal.main_arg0) : Cert.KernelIdeal.S1024x20.Idx → BitVec 32) i).toNat < 100000)
    (d : Dev Cert.KernelIdeal.nD) (y : Cert.KernelIdeal.S32x5x128.Idx) :
    ((idxRows m d : Cert.KernelIdeal.S32x5x128.Idx → BitVec 32) y).toNat < 100000 := h d _

end Cert.EmbedMlp

end
-- ==== Proof.Frames.lean ====
/-
  THE PROGRAMS' RUNS under the precondition, at the ideal instance and at the bit-exact one.

  The two printed programs are one text under two names; the run is proved of the one, for any float values, and the other's
  definitions and threads are shown to be the same.
-/
module

public import proofs.«01_k».proof.Defs
public import proofs.«01_k».proof.Proof.InRange
public import proofs.«01_k».proof.Proof.Gen.Kernel

@[expose] public section

noncomputable section

namespace Cert.EmbedMlp

open Idealize.ShloMosaic Idealize.SL.Sem

attribute [local instance] Cert.Kernel.Gen.facts Cert.KernelIdeal.Gen.facts Cert.Pre_in_range.Gen.facts

variable {F : FTy → Type} [FloatOps F]

/-- The bodies of the two programs' kernels are the same, label by label. -/
theorem bodies_eq : Cert.Kernel.defs₀ (F := F) = Cert.KernelIdeal.defs₀ (F := F) := by
  funext p l a
  obtain ⟨l, hl⟩ := l
  match p, l, hl, a with
  | .tc, 0, _, _ => rfl
  | .tc, 1, _, (_, _) => rfl
  | .scScalar _, 0, _, _ => rfl
  | .scScalar _, 1, _, _ => rfl
  | .scVector _ _, 0, _, _ => rfl
  | .scVector _ _, 1, _, _ => rfl

/-- The two programs' definitions are the same. -/
theorem defs_eq : Cert.Kernel.defs (F := F) = Cert.KernelIdeal.defs (F := F) :=
  congrArg (fun d => Cert.KernelIdeal.sc.defs (Pipeline.defs (Cert.KernelIdeal.pcfgs (F := F)) d)) bodies_eq

/-- THE PRINTED PROGRAM'S RUN, bit for bit: what the idealized text's run says, read at the bit-exact values. -/
theorem kernel_run (m : (ℓ : Loc Cert.Kernel.nD Cert.Kernel.τ Cert.Kernel.sig) → Buf (Elt Bits) ℓ) (g : Dev Cert.Kernel.nD → PrngReg)
    (h : Cert.Pre_Kernel m) :
    θ_run (Cert.Kernel.defs (F := Bits)) (Cert.Kernel.threads (F := Bits)) ⟨m, fun _ => 0, g⟩ (QC (F := Bits) m) :=
  cast (congrArg (fun D => θ_run D (Cert.KernelIdeal.threads (F := Bits)) ⟨m, fun _ => 0, g⟩ (QC (F := Bits) m)) defs_eq.symm)
    (run_main (F := Bits) m g (idxRows_lt (F := Bits) m fun d => word_lt (F := Bits) _ _ _ _ _ _ (h d)))

/-- THE IDEALIZED PROGRAM'S RUN. -/
theorem kernelIdeal_run (m : (ℓ : Loc Cert.KernelIdeal.nD Cert.KernelIdeal.τ Cert.KernelIdeal.sig) → Buf (Elt Ideal) ℓ)
    (g : Dev Cert.KernelIdeal.nD → PrngReg) (h : Cert.Pre_KernelIdeal m) :
    θ_run (Cert.KernelIdeal.defs (F := Ideal)) (Cert.KernelIdeal.threads (F := Ideal)) ⟨m, fun _ => 0, g⟩ (QC (F := Ideal) m) :=
  run_main (F := Ideal) m g (idxRows_lt (F := Ideal) m fun d => word_lt (F := Ideal) _ _ _ _ _ _ (h d))

/-- The printed program's frame. -/
theorem frame_kernel : Cert.quiescent_Kernel := fun m g h =>
  (θ_run Cert.Kernel.defs _ _).mono (fun _ q => ⟨fun c => (q.1 c).1, q.2⟩) (kernel_run m g h)

/-- The idealized program's frame. -/
theorem frame_kernelIdeal : Cert.quiescent_KernelIdeal := fun m g h =>
  (θ_run Cert.KernelIdeal.defs _ _).mono (fun _ q => ⟨fun c => (q.1 c).1, q.2⟩) (kernelIdeal_run m g h)

end Cert.EmbedMlp

end
-- ==== Proof.RefRun.lean ====
/-
  THE REFERENCE: it runs, leaves its arguments and ends with every counter at zero.
-/
module

public import proofs.«01_k».proof.Defs
public import proofs.«01_k».proof.Proof.Gen.ReferenceIdeal.Run
public import proofs.«01_k».proof.Proof.Gen.ReferenceIdeal.Read

@[expose] public section

noncomputable section

namespace Cert.EmbedMlp

open Idealize.ShloMosaic Idealize.SL.Sem

/-- The reference's frame, from any memory: it declares no semaphore, so that every counter is zero throughout. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m (c.tc.loc Cert.ReferenceIdeal.main_arg0)
        ∧ r.2.mem ((c.tc : Thread Cert.ReferenceIdeal.nD Cert.ReferenceIdeal.τ).loc Cert.ReferenceIdeal.main_arg1) = m (c.tc.loc Cert.ReferenceIdeal.main_arg1)
        ∧ r.2.mem ((c.tc : Thread Cert.ReferenceIdeal.nD Cert.ReferenceIdeal.τ).loc Cert.ReferenceIdeal.main_arg2) = m (c.tc.loc Cert.ReferenceIdeal.main_arg2)
        ∧ r.2.mem ((c.tc : Thread Cert.ReferenceIdeal.nD Cert.ReferenceIdeal.τ).loc Cert.ReferenceIdeal.main_arg3) = m (c.tc.loc Cert.ReferenceIdeal.main_arg3)
        ∧ r.2.mem ((c.tc : Thread Cert.ReferenceIdeal.nD Cert.ReferenceIdeal.τ).loc Cert.ReferenceIdeal.main_arg4) = m (c.tc.loc Cert.ReferenceIdeal.main_arg4)
        ∧ r.2.mem ((c.tc : Thread Cert.ReferenceIdeal.nD Cert.ReferenceIdeal.τ).loc Cert.ReferenceIdeal.main_arg5) = m (c.tc.loc Cert.ReferenceIdeal.main_arg5))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

end Cert.EmbedMlp

end
-- ==== Proof.Take.lean ====
/-
  THE REFERENCE'S ROWS: where every index word names a row of the table, the reference's lookup is that row, and the row array it
  reshapes to is one batch element to a row.
-/
module

public import proofs.«01_k».proof.Proof.InRange
public import proofs.«01_k».proof.Proof.RefRun
public import Idealize.ShloMosaic.Lib.ValueIdx

@[expose] public section

noncomputable section

namespace Cert.EmbedMlp

open Cert.ReferenceIdeal Cert.ReferenceIdeal.Gen Cert.ReferenceIdeal.Read
open Idealize.ShloMosaic Idealize.ShloMosaic.ValueIdx

variable {F : FTy → Type} [FloatOps F]

/-- A word below a hundred thousand is not negative as a signed number, -/
theorem not_neg (v : BitVec 32) (h : v.toNat < 100000) : IntOp.cmpi .slt v 0#32 = 0#1 := by
  have e : BitVec.slt v 0#32 = false := by
    simp only [BitVec.slt_eq_decide, BitVec.toInt_eq_toNat_cond, BitVec.toNat_ofNat, Nat.reducePow, Nat.reduceMod, decide_eq_false_iff_not]
    omega
  simp only [IntOp.cmpi, e]; rfl
/-- and lies between zero and the last row. -/
theorem between (v : BitVec 32) (h : v.toNat < 100000) : IntOp.andi (IntOp.cmpi .sge v 0#32) (IntOp.cmpi .sle v 99999#32) = 1#1 := by
  simp only [IntOp.cmpi, andi_ofBool, ofBool_eq_one, Bool.and_eq_true, BitVec.sle_eq_decide, decide_eq_true_eq,
    BitVec.toInt_eq_toNat_cond, BitVec.toNat_ofNat, Nat.reducePow, Nat.reduceMod]
  omega
/-- Its signed reading, held to the table's rows, is itself. -/
theorem clamp_idle (v : BitVec 32) (h : v.toNat < 100000) : min v.toInt.toNat (100000 - 1) = v.toNat % 100000 := by
  have e : v.toInt = (v.toNat : ℤ) := by rw [BitVec.toInt_eq_toNat_cond, if_pos (by omega)]
  rw [e, Int.toNat_natCast, Nat.mod_eq_of_lt h]
  omega

/-- The index word of batch element `b`'s `t`-th lookup, and where the lookup's start index stands. -/
def wordIx (b : Fin 1024) (t : Fin 20) : S1024x20.Idx := fun | 0 => b | 1 => t
def startIx (i : S1024x20x16.Idx) : S1024x20x1.Idx := fun | 0 => i 0 | 1 => i 1 | 2 => (0 : Fin 1)

variable (x0 : (⟨S1024x20, .i32⟩ : BufTy).Contents (Elt F)) (x1 : (⟨S100000x16, .f32⟩ : BufTy).Contents (Elt F))

/-- The row index, after the reference's wrap of negative ones, is the index. -/
theorem wrapped (h : ∀ i : S1024x20.Idx, (x0 i : BitVec 32).toNat < 100000) (i : S1024x20.Idx) : val_main_call0_v4 (F := F) x0 i = x0 i := by
  rw [val_main_call0_v4_apply, val_main_call0_v1_apply, val_main_call0_v0_apply, val_main_call0_c_apply, not_neg _ (h i)]
  rfl

theorem start_word (h : ∀ i : S1024x20.Idx, (x0 i : BitVec 32).toNat < 100000) (i : S1024x20x1.Idx) :
    val_main_call0_v5 (F := F) x0 i = x0 (wordIx (i 0) (i 1)) := by
  rw [val_main_call0_v5_apply, wrapped x0 h]
  exact congrArg x0 (funext fun a => match a with | ⟨0, _⟩ => rfl | ⟨1, _⟩ => rfl)

/-- Every lookup is in bounds. -/
theorem in_bounds (h : ∀ i : S1024x20.Idx, (x0 i : BitVec 32).toNat < 100000) (i : S1024x20.Idx) : val_main_call0_v12 (F := F) x0 i = 1#1 := by
  unfold val_main_call0_v12
  refine Host.reduce_andi_one _ _ _ _ _ rfl fun j => ?_
  rw [val_main_call0_v11_apply, val_main_call0_v7_apply, val_main_call0_v10_apply, val_main_call0_v6_apply, val_main_call0_v9_apply,
    val_main_call0_v8_apply, val_main_call0_c_1_apply, val_main_call0_c_2_apply, start_word x0 h]
  exact between _ (h _)

/-- THE LOOKUP read at an index: the table at the row that the index word, held to the table's rows, names. -/
theorem lookup (idx : IVec S1024x20x1 32) (i : S1024x20x16.Idx) :
    Host.gather gather_S100000x16_S1024x20x1_S1024x20x16_2_0_n_n_0_2_116 x1 idx i
      = x1 (tabIx ⟨min (idx (startIx i)).toInt.toNat (100000 - 1), by omega⟩ (i 2)) := by
  unfold Host.gather
  refine congrArg x1 (funext fun a => Fin.ext ?_)
  show (gather_S100000x16_S1024x20x1_S1024x20x16_2_0_n_n_0_2_116).start i idx a
      + (gather_S100000x16_S1024x20x1_S1024x20x16_2_0_n_n_0_2_116).batchCoord i a
      + (gather_S100000x16_S1024x20x1_S1024x20x16_2_0_n_n_0_2_116).offCoord i a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (gather_S100000x16_S1024x20x1_S1024x20x16_2_0_n_n_0_2_116).startIndexMap from List.mem_singleton.mpr rfl)]
    have hsi : (gather_S100000x16_S1024x20x1_S1024x20x16_2_0_n_n_0_2_116).siIdx i
        ⟨List.idxOf (0 : Fin 2) (gather_S100000x16_S1024x20x1_S1024x20x16_2_0_n_n_0_2_116).startIndexMap,
          List.idxOf_lt_length_iff.2 (List.mem_singleton.mpr rfl)⟩ = startIx i := by
      funext b; refine Fin.ext ?_
      match b with
      | ⟨0, _⟩ => rfl
      | ⟨1, _⟩ => rfl
      | ⟨2, _⟩ => rfl
    show min (idx ((gather_S100000x16_S1024x20x1_S1024x20x16_2_0_n_n_0_2_116).siIdx i
        ⟨List.idxOf (0 : Fin 2) (gather_S100000x16_S1024x20x1_S1024x20x16_2_0_n_n_0_2_116).startIndexMap,
          List.idxOf_lt_length_iff.2 (List.mem_singleton.mpr rfl)⟩)).toInt.toNat (100000 - 1) = _
    rw [hsi]; rfl
  · unfold GatherDims.start GatherDims.offCoord
    rw [dif_neg (show ¬(1 : Fin 2) ∈ (gather_S100000x16_S1024x20x1_S1024x20x16_2_0_n_n_0_2_116).startIndexMap by decide),
      dif_pos (show (1 : Fin 2) ∈ (gather_S100000x16_S1024x20x1_S1024x20x16_2_0_n_n_0_2_116).sKept by decide), Nat.zero_add]
    rfl

/-- THE REFERENCE'S LOOKUP where every index word names a row: that row. -/
theorem taken (h : ∀ i : S1024x20.Idx, (x0 i : BitVec 32).toNat < 100000) (i : S1024x20x16.Idx) :
    val_main_v0 (F := F) x0 x1 i = x1 (tabIx (rowAt (x0 (wordIx (i 0) (i 1)))) (i 2)) := by
  rw [val_main_v0_apply, val_main_call0_v14_apply, in_bounds x0 h]
  show val_main_call0_v13 (F := F) x0 x1 i = _
  unfold val_main_call0_v13
  rw [lookup]
  refine congrArg x1 (funext fun a => Fin.ext ?_)
  match a with
  | ⟨0, _⟩ =>
    show min (val_main_call0_v5 (F := F) x0 (startIx i) : BitVec 32).toInt.toNat (100000 - 1) = (x0 (wordIx (i 0) (i 1)) : BitVec 32).toNat % 100000
    rw [start_word x0 h]
    exact clamp_idle _ (h _)
  | ⟨1, _⟩ => rfl

end Cert.EmbedMlp

end
-- ==== Proof.Features.lean ====
/-
  THE FEATURES: the array that the gather launch leaves, reshaped to one batch element to a row, is the array that the reference
  reshapes its lookups to.
-/
module

public import proofs.«01_k».proof.Proof.Take

@[expose] public section

noncomputable section

namespace Cert.EmbedMlp

open Cert.ReferenceIdeal.Read
open Cert.KernelIdeal Cert.KernelIdeal.Gen
open Idealize.ShloMosaic Idealize.ShloMosaic.TcCoe

variable {F : FTy → Type} [FloatOps F]

variable (m : (ℓ : Loc nD τ sig) → Buf (Elt F) ℓ)

/-- The program's index words and its table, as the reference takes them. -/
abbrev words (c : Dev nD) : (⟨S1024x20, .i32⟩ : BufTy).Contents (Elt F) := m ((c : Thread nD τ).loc main_arg0)
abbrev tableOf (c : Dev nD) : (⟨S100000x16, .f32⟩ : BufTy).Contents (Elt F) := m ((c : Thread nD τ).loc main_arg1)

/-- Where word `r` of the indices in one row stands. -/
def flatIx (r : ℕ) (h : r < 20480) : S20480.Idx := fun | 0 => ⟨r, h⟩

/-- The tasks' index rows hold, in order, the index words. -/
theorem idxRows_apply (c : Dev nD) (r : ℕ) (h : r < 20480) :
    (idxRows m c : S32x5x128.Idx → BitVec 32) (idxIx r h) = words m c (wordIx ⟨r / 20, by omega⟩ ⟨r % 20, by omega⟩) := by
  show shapeCast S32x5x128 (flatIdx m c) shapeCasts_S20480_S32x5x128 (idxIx r h) = _
  rw [shapeCast_apply (flatIdx m c) shapeCasts_S20480_S32x5x128 (idxIx r h) (flatIx r h)
    (by
      rw [Shape.rowMajor_val_one, Shape.rowMajor_val_three]
      show r = (r / 640 * 5 + r % 640 / 128) * 128 + r % 128
      omega)]
  unfold flatIdx
  exact shapeCast_apply (words m c) shapeCasts_S1024x20_S20480 (flatIx r h) (wordIx ⟨r / 20, by omega⟩ ⟨r % 20, by omega⟩)
    (by
      rw [Shape.rowMajor_val_one, Shape.rowMajor_val_two]
      show r / 20 * 20 + r % 20 = r
      omega)

/-- Where element `j` of batch element `b`'s features stands in the row array. -/
def rowIx (b : Fin 1024) (j : Fin 320) : S20480x16.Idx := fun
  | 0 => ⟨(b.val * 320 + j.val) / 16, by show _ < 20480; omega⟩
  | 1 => ⟨(b.val * 320 + j.val) % 16, by show _ < 16; omega⟩

/-- THE FEATURES of the two programs agree, where every index word names a row of the table. -/
theorem features_eq (c : Dev nD) (h : ∀ i : S1024x20.Idx, (words m c i : BitVec 32).toNat < 100000) :
    (arrs m c 0 : S1024x320.Idx → Elt F .f32) = val_main_v1 (F := F) (words m c) (tableOf m c) := by
  refine funext fun (i : S1024x320.Idx) => ?_
  have h0 : (i 0).val < 1024 := (i 0).isLt
  have h1 : (i 1).val < 320 := (i 1).isLt
  have hr : ((i 0).val * 320 + (i 1).val) / 16 < 20480 := by omega
  have hk : (S20480x16.rowMajor (rowIx ⟨(i 0).val, h0⟩ ⟨(i 1).val, h1⟩)).val = (S1024x320.rowMajor i).val := by
    rw [Shape.rowMajor_val_two, Shape.rowMajor_val_two]
    show ((i 0).val * 320 + (i 1).val) / 16 * 16 + ((i 0).val * 320 + (i 1).val) % 16 = (i 0).val * 320 + (i 1).val
    omega
  rw [val_main_v1_apply, taken _ _ h]
  refine (shapeCast_apply (gathered c (idxRows m c) (table m c) : S20480x16.Idx → Elt F .f32) shapeCasts_S20480x16_S1024x320 i _ hk).trans ?_
  refine congrArg (tableOf m c) (congrArg₂ tabIx (congrArg rowAt ((idxRows_apply m c _ hr).trans
    (congrArg (words m c) (congrArg₂ wordIx (Fin.ext ?_) (Fin.ext rfl))))) (Fin.ext rfl))
  show ((i 0).val * 320 + (i 1).val) / 16 / 20 = ((i 0).val * 320 + (i 1).val) / 320
  omega

end Cert.EmbedMlp

end
-- ==== Proof.Layers.lean ====
/-
  THE TWO LAYERS, at the ideal instance: the hidden layer that the region computes is the reference's, and a block of its second
  layer is, column by column, the reference's.
-/
module

public import proofs.«01_k».proof.Proof.Features
public import Idealize.ShloMosaic.PureOps.Ideal.Laws

@[expose] public section

noncomputable section

namespace Cert.EmbedMlp

open Cert.ReferenceIdeal.Read
open Cert.KernelIdeal Cert.KernelIdeal.Gen
open Idealize.ShloMosaic Idealize.ShloMosaic.TcCoe
open Idealize.ShloMosaic.Pipeline (Window)

section Blocks

variable {F : FTy → Type} [FloatOps F]
variable (A : (c : Dev nD) → (w : Fin cfg1.W) → Buf (Elt F) ((cfg1.win w).arr.view.loc (c : Thread nD τ))) (c : Dev nD)

/-- The three windows whose block is the whole array stage the array. -/
theorem feat_whole : feat A c = A c 0 :=
  funext fun (i : S1024x320.Idx) => congrArg (A c 0) (funext fun a => Fin.ext
    (Window.rect_emb_val_of_index_zero win1_0 tz a (match a with | ⟨0, _⟩ => rfl | ⟨1, _⟩ => rfl) i))
theorem wgt1_whole : wgt1 A c = A c 1 :=
  funext fun (i : S320x64.Idx) => congrArg (A c 1) (funext fun a => Fin.ext
    (Window.rect_emb_val_of_index_zero win1_1 tz a (match a with | ⟨0, _⟩ => rfl | ⟨1, _⟩ => rfl) i))
theorem bias1_whole : bias1 A c = A c 2 :=
  funext fun (i : S1x64.Idx) => congrArg (A c 2) (funext fun a => Fin.ext
    (Window.rect_emb_val_of_index_zero win1_2 tz a (match a with | ⟨0, _⟩ => rfl | ⟨1, _⟩ => rfl) i))

end Blocks

variable (m : (ℓ : Loc nD τ sig) → Buf (Elt Ideal) ℓ)

/-- The weights and the biases, as the reference takes them. -/
abbrev weights1 (c : Dev nD) : (⟨S320x64, .f32⟩ : BufTy).Contents (Elt Ideal) := m ((c : Thread nD τ).loc main_arg2)
abbrev biases1 (c : Dev nD) : (⟨S64, .f32⟩ : BufTy).Contents (Elt Ideal) := m ((c : Thread nD τ).loc main_arg3)
abbrev weights2 (c : Dev nD) : (⟨S64x100000, .f32⟩ : BufTy).Contents (Elt Ideal) := m ((c : Thread nD τ).loc main_arg4)
abbrev biases2 (c : Dev nD) : (⟨S100000, .f32⟩ : BufTy).Contents (Elt Ideal) := m ((c : Thread nD τ).loc main_arg5)

/-- Entry `k` of a bias. -/
def biasIx (k : Fin 64) : S64.Idx := fun | 0 => k
def outIx (k : Fin 100000) : S100000.Idx := fun | 0 => k
/-- An entry of a one-row array. -/
def row64 (k : Fin 64) : S1x64.Idx := fun | 0 => (0 : Fin 1) | 1 => k
def rowFull (k : Fin 100000) : S1x100000.Idx := fun | 0 => (0 : Fin 1) | 1 => k
def rowBlk (k : Fin 4096) : S1x4096.Idx := fun | 0 => (0 : Fin 1) | 1 => k

/-- The first bias, one row, is the bias. -/
theorem bias1_apply (c : Dev nD) (k : Fin 64) : (arrs m c 2 : S1x64.Idx → EReal) (row64 k) = biases1 m c (biasIx k) :=
  shapeCast_apply (biases1 m c) shapeCasts_S64_S1x64 (row64 k) (biasIx k) (by
    rw [Shape.rowMajor_val_one, Shape.rowMajor_val_two]
    show k.val = 0 * 64 + k.val
    omega)
/-- The second bias, one row, is the bias. -/
theorem bias2_apply (c : Dev nD) (k : Fin 100000) : (arrs m c 4 : S1x100000.Idx → EReal) (rowFull k) = biases2 m c (outIx k) :=
  shapeCast_apply (biases2 m c) shapeCasts_S100000_S1x100000 (rowFull k) (outIx k) (by
    rw [Shape.rowMajor_val_one, Shape.rowMajor_val_two]
    show k.val = 0 * 100000 + k.val
    omega)

/-- THE HIDDEN LAYER of the two programs agrees, where every index word names a row of the table. -/
theorem hidden_eq (c : Dev nD) (h : ∀ i : S1024x20.Idx, (words m c i : BitVec 32).toNat < 100000) :
    hid (arrs m) c = val_main_v7 (F := Ideal) (words m c) (tableOf m c) (weights1 m c) (biases1 m c) := by
  unfold hid
  rw [feat_whole, wgt1_whole, bias1_whole, features_eq m c h]
  refine funext fun (i : S1024x64.Idx) => ?_
  have hi : (i 1).val < 64 := (i 1).isLt
  rw [val_main_v7_apply, val_main_v5_apply, val_main_v4_apply, val_main_v3_apply, val_main_v6_apply, val_main_cst_apply]
  unfold k1_pay1
  simp only [shapeCast_self]
  show FloatOps.maximumf (FloatOps.addf (FloatOps.matmul (F := Ideal) _ none _ _ _ i) (broadcastTo S1024x64 _ broadcasts_S1x64_S1024x64 i)) _ = _
  refine congrArg₂ FloatOps.maximumf (congrArg₂ FloatOps.addf ?_ ?_) rfl
  · rw [Ideal.matmul_constant_zero_apply]
    unfold val_main_v2
    simp only [Host.dotGeneral]
    rw [Ideal.dotGeneral_apply]
    rfl
  · rw [broadcastTo_apply _ broadcasts_S1x64_S1024x64 i (row64 ⟨(i 1).val, hi⟩)
      (fun a => match a with | ⟨0, _⟩ => rfl | ⟨1, _⟩ => rfl)]
    refine (bias1_apply m c _).trans (congrArg (biases1 m c) (funext fun a => match a with | ⟨0, _⟩ => rfl))

/-! ## The second layer -/

/-- Hidden unit `k` of the batch element that an entry of a block belongs to, and its weight for the entry's column. -/
def unitIx (y : S1024x4096.Idx) (k : Fin 64) : S1024x64.Idx := fun | 0 => y 0 | 1 => k
def weightIx (y : S1024x4096.Idx) (k : Fin 64) : S64x4096.Idx := fun | 0 => k | 1 => y 1

theorem lhs_unit (y : S1024x4096.Idx) (q : dot_S1024x64_S64x4096_S1024x4096_1_0_0_1_n_n.contr.Idx) :
    (dot_S1024x64_S64x4096_S1024x4096_1_0_0_1_n_n.lhsIdx y q 0).val = (y 0).val := by
  unfold DotDims.lhsIdx
  rw [dif_neg (show ¬(0 : Fin S1024x64.rank) ∈ dot_S1024x64_S64x4096_S1024x4096_1_0_0_1_n_n.lhsBatch by decide),
    dif_pos (show (0 : Fin S1024x64.rank) ∈ dot_S1024x64_S64x4096_S1024x4096_1_0_0_1_n_n.lhsNonContracting by decide)]
  rfl
theorem rhs_column (y : S1024x4096.Idx) (q : dot_S1024x64_S64x4096_S1024x4096_1_0_0_1_n_n.contr.Idx) :
    (dot_S1024x64_S64x4096_S1024x4096_1_0_0_1_n_n.rhsIdx y q 1).val = (y 1).val := by
  unfold DotDims.rhsIdx
  rw [dif_neg (show ¬(1 : Fin S64x4096.rank) ∈ dot_S1024x64_S64x4096_S1024x4096_1_0_0_1_n_n.rhsBatch by decide),
    dif_pos (show (1 : Fin S64x4096.rank) ∈ dot_S1024x64_S64x4096_S1024x4096_1_0_0_1_n_n.rhsNonContracting by decide)]
  rfl

/-- A BLOCK OF THE SECOND LAYER at an entry: the sum over the hidden units of the unit times its weight for the entry's column, and the
    column's bias. Nothing of the weights' other columns enters it. -/
theorem block_apply (x : S1024x64.Idx → EReal) (w : S64x4096.Idx → EReal) (b : S1x4096.Idx → EReal) (y : S1024x4096.Idx) :
    k1_pay2 (F := Ideal) x w b y = (∑ k : Fin 64, x (unitIx y k) * w (weightIx y k)) + b (rowBlk (y 1)) := by
  unfold k1_pay2
  simp only [shapeCast_self]
  show FloatOps.addf (F := Ideal) (φ := .f32) (FloatOps.matmul (F := Ideal) dot_S1024x64_S64x4096_S1024x4096_1_0_0_1_n_n none x w _ y)
    (broadcastTo S1024x4096 b broadcasts_S1x4096_S1024x4096 y) = _
  rw [Ideal.matmul_constant_zero_apply, broadcastTo_apply b broadcasts_S1x4096_S1024x4096 y (rowBlk (y 1))
      (fun a => match a with | ⟨0, _⟩ => rfl | ⟨1, _⟩ => rfl),
    ← Equiv.sum_comp (ValueIdx.contrEquiv1 dot_S1024x64_S64x4096_S1024x4096_1_0_0_1_n_n 64 rfl rfl).symm]
  refine congrArg (· + b (rowBlk (y 1))) (Finset.sum_congr rfl fun k _ => ?_)
  have hk := ValueIdx.contrEquiv1_symm_val dot_S1024x64_S64x4096_S1024x4096_1_0_0_1_n_n 64 rfl rfl k
  refine congrArg₂ (· * ·) (congrArg x (funext fun a => Fin.ext ?_)) (congrArg w (funext fun a => Fin.ext ?_))
  · match a with
    | ⟨0, _⟩ => exact lhs_unit _ _
    | ⟨1, _⟩ => exact (dot_S1024x64_S64x4096_S1024x4096_1_0_0_1_n_n.lhsIdx_val_of_single rfl _ _).trans hk
  · match a with
    | ⟨0, _⟩ => exact (dot_S1024x64_S64x4096_S1024x4096_1_0_0_1_n_n.rhsIdx_val_of_single rfl _ _).trans hk
    | ⟨1, _⟩ => exact rhs_column _ _

end Cert.EmbedMlp

end
-- ==== Proof.Value.lean ====
/-
  THE RESULT: what the region leaves in the program's result array is the reference's result, entry by entry. A column of the result
  lies in the block its number falls in; the last block is cut at the array's end.
-/
module

public import proofs.«01_k».proof.Proof.Layers

@[expose] public section

noncomputable section

namespace Cert.EmbedMlp

open Cert.ReferenceIdeal.Read
open Cert.KernelIdeal Cert.KernelIdeal.Gen
open Idealize.ShloMosaic Idealize.ShloMosaic.TcCoe
open Idealize.ShloMosaic.Pipeline (Window Dat Clip)

/-! ## Where a block's columns lie -/

/-- The word that a block's index map makes of a grid point is the point. -/
theorem point_word (t : Fin cfg1.N) : (BitVec.ofNat 32 ((grid1.coords t) 0).val).toNat = t.val := by
  have ht : t.val < 25 := N_1 ▸ t.isLt
  rw [coords_val, BitVec.toNat_ofNat]
  omega

theorem index3_1 (t : Fin cfg1.N) : win1_3.index t (1 : Fin 2) = t.val := point_word t
theorem index4_1 (t : Fin cfg1.N) : win1_4.index t (1 : Fin 2) = t.val := point_word t
theorem index5_1 (t : Fin cfg1.N) : win1_5.index t (1 : Fin 2) = t.val := point_word t

/-- How many columns of the array a block has: 4096, or what is left before the array's end. -/
theorem extent5 (t : Fin cfg1.N) : win1_5.xsize (grid1.coords t) (1 : Fin 2) = min 4096 (100000 - t.val * 4096) := by
  have ht : t.val < 25 := N_1 ▸ t.isLt
  show (Clip.of (BitVec.ofNat 32 ((grid1.coords t) 0).val).toNat 4096 100000).extent 4096 = _
  rw [point_word]
  unfold Clip.of
  split
  · show 4096 = _
    omega
  · show 100000 - t.val * 4096 = _
    omega

/-- An entry of the part of a result block that the array has. -/
abbrev Entry (t : Fin cfg1.N) : Type := (win1_5.xblock (grid1.coords t)).Idx

/-- Its row of the second weights, and its entry of the second bias, within their blocks' parts: the same column. -/
def weightPart (t : Fin cfg1.N) (y : Entry t) (k : Fin 64) : (win1_3.xblock (grid1.coords t)).Idx :=
  fun | 0 => k | 1 => y (1 : Fin 2)
def biasPart (t : Fin cfg1.N) (y : Entry t) : (win1_4.xblock (grid1.coords t)).Idx :=
  fun | 0 => (0 : Fin 1) | 1 => y (1 : Fin 2)

variable (m : (ℓ : Loc nD τ sig) → Buf (Elt Ideal) ℓ) (c : Dev nD)

/-- The reference's result, of the kernel's arguments. -/
abbrev refOut : S1024x100000.Idx → EReal :=
  val_main_v11 (F := Ideal) (words m c) (tableOf m c) (weights1 m c) (biases1 m c) (weights2 m c) (biases2 m c)

/-- Where an entry of a block lies in the result. -/
abbrev place (t : Fin cfg1.N) (y : Entry t) : S1024x100000.Idx := (win1_5.rect t).emb y

theorem place_0 (t : Fin cfg1.N) (y : Entry t) : (place t y 0).val = (y (0 : Fin 2)).val :=
  Window.rect_emb_val_of_index_zero win1_5 t (0 : Fin 2) rfl y
theorem place_1 (t : Fin cfg1.N) (y : Entry t) : (place t y 1).val = t.val * 4096 + (y (1 : Fin 2)).val := by
  have e := Window.rect_emb_val win1_5 t y (1 : Fin 2)
  rw [index5_1] at e
  exact e

/-- The weight staged for an entry's column is the array's. -/
theorem weight_staged (t : Fin cfg1.N) (d : S64x4096.Idx → EReal) (y : Entry t) (k : Fin 64) :
    (filledWith (F := Ideal) (arrs m) c 3 t d : S64x4096.Idx → EReal) (weightIx (win1_5.xinj (grid1.coords t) y) k)
      = weights2 m c (ridx_main_v8 (place t y) k) := by
  have e : weightIx (win1_5.xinj (grid1.coords t) y) k = win1_3.xinj (grid1.coords t) (weightPart t y k) :=
    funext fun a => match a with | ⟨0, _⟩ => rfl | ⟨1, _⟩ => rfl
  refine (congrArg (filledWith (F := Ideal) (arrs m) c 3 t d : S64x4096.Idx → EReal) e).trans ?_
  refine (Window.fill_xinj win1_3 (grid1.coords t) d (blkOf (arrs m) c 3 t) (weightPart t y k)).trans ?_
  refine congrArg (weights2 m c) (funext fun a => Fin.ext ?_)
  match a with
  | ⟨0, _⟩ => exact Window.rect_emb_val_of_index_zero win1_3 t (0 : Fin 2) rfl (weightPart t y k)
  | ⟨1, _⟩ =>
    have e := Window.rect_emb_val win1_3 t (weightPart t y k) (1 : Fin 2)
    rw [index3_1] at e
    exact e.trans (place_1 t y).symm

/-- The bias staged for an entry's column is the array's. -/
theorem bias_staged (t : Fin cfg1.N) (d : S1x4096.Idx → EReal) (y : Entry t) :
    (filledWith (F := Ideal) (arrs m) c 4 t d : S1x4096.Idx → EReal) (rowBlk (win1_5.xinj (grid1.coords t) y (1 : Fin 2)))
      = biases2 m c (outIx (place t y 1)) := by
  have e : rowBlk (win1_5.xinj (grid1.coords t) y (1 : Fin 2)) = win1_4.xinj (grid1.coords t) (biasPart t y) :=
    funext fun a => match a with | ⟨0, _⟩ => rfl | ⟨1, _⟩ => rfl
  refine (congrArg (filledWith (F := Ideal) (arrs m) c 4 t d : S1x4096.Idx → EReal) e).trans ?_
  refine (Window.fill_xinj win1_4 (grid1.coords t) d (blkOf (arrs m) c 4 t) (biasPart t y)).trans ?_
  refine Eq.trans (congrArg (arrs m c 4 : S1x100000.Idx → EReal) (funext fun a => Fin.ext ?_)) (bias2_apply m c (place t y 1))
  match a with
  | ⟨0, _⟩ => exact Window.rect_emb_val_of_index_zero win1_4 t (0 : Fin 2) rfl (biasPart t y)
  | ⟨1, _⟩ =>
    have e := Window.rect_emb_val win1_4 t (biasPart t y) (1 : Fin 2)
    rw [index4_1] at e
    exact e.trans (place_1 t y).symm

/-- The reference's result at an entry: the sum over the hidden units of the unit times its weight for the entry's column, and the
    column's bias. -/
theorem refOut_apply (i : S1024x100000.Idx) :
    refOut m c i = (∑ k : Fin 64, val_main_v7 (F := Ideal) (words m c) (tableOf m c) (weights1 m c) (biases1 m c) (lidx_main_v8 i k)
        * weights2 m c (ridx_main_v8 i k)) + biases2 m c (outIx (i 1)) := by
  show val_main_v11 (F := Ideal) _ _ _ _ _ _ i = _
  rw [val_main_v11_apply, val_main_v8_apply, val_main_v10_apply, val_main_v9_apply]
  exact congrArg (_ + ·) (congrArg (biases2 m c) (funext fun a => match a with | ⟨0, _⟩ => rfl))

/-- WHAT A POINT WRITES at an entry of its block is the reference's result there, where every index word names a row of the table. -/
theorem entry_eq (h : ∀ i : S1024x20.Idx, (words m c i : BitVec 32).toNat < 100000) (t : Fin cfg1.N) (d3 : S64x4096.Idx → EReal)
    (d4 : S1x4096.Idx → EReal) (y : Entry t) :
    k1_pay2 (F := Ideal) (hid (arrs m) c) (filledWith (arrs m) c 3 t d3) (filledWith (arrs m) c 4 t d4)
      (win1_5.xinj (grid1.coords t) y) = refOut m c (place t y) := by
  refine (block_apply _ _ _ _).trans (Eq.trans ?_ (refOut_apply m c (place t y)).symm)
  refine congrArg₂ (· + ·) (Finset.sum_congr rfl fun k _ => congrArg₂ (· * ·) ?_ (weight_staged m c t d3 y k)) (bias_staged m c t d4 y)
  rw [hidden_eq m c h]
  refine congrArg (val_main_v7 (F := Ideal) (words m c) (tableOf m c) (weights1 m c) (biases1 m c)) (funext fun a => Fin.ext ?_)
  match a with
  | ⟨0, _⟩ => exact (place_0 t y).symm
  | ⟨1, _⟩ => rfl

/-- Every entry of the result lies in a block: the one its column's number falls in. -/
theorem covered (i : S1024x100000.Idx) : ∃ (t : Fin cfg1.N) (y : Entry t), place t y = i := by
  have h1 : (i 1).val < 100000 := (i 1).isLt
  have ht : (i 1).val / 4096 < cfg1.N := by
    show _ < grid1.N
    rw [N_1]
    omega
  have hx : (i 1).val % 4096 < win1_5.xsize (grid1.coords ⟨(i 1).val / 4096, ht⟩) (1 : Fin 2) := by
    rw [extent5]
    show (i 1).val % 4096 < min 4096 (100000 - (i 1).val / 4096 * 4096)
    omega
  refine ⟨⟨(i 1).val / 4096, ht⟩, fun | 0 => i 0 | 1 => ⟨(i 1).val % 4096, hx⟩, funext fun a => Fin.ext ?_⟩
  match a with
  | ⟨0, _⟩ => exact place_0 _ _
  | ⟨1, _⟩ =>
    refine (place_1 _ _).trans ?_
    show (i 1).val / 4096 * 4096 + (i 1).val % 4096 = (i 1).val
    omega

/-- THE RESULT ARRAY after the region is the reference's result, where every index word names a row of the table. -/
theorem result_eq (h : ∀ i : S1024x20.Idx, (words m c i : BitVec 32).toNat < 100000)
    (r : Buf (Elt Ideal) ((c : Thread nD τ).loc main_v6)) (hr : Res (arrs m) c r) : r = refOut m c := by
  obtain ⟨after, ha, rfl⟩ := hr
  refine Dat.arrAt_eq_of_cover ((rdat (arrs m) c).withAfter after) 5 (refOut m c) (fun t _ => ?_) (fun (i : S1024x100000.Idx) => ?_)
  · refine funext fun (y : Entry t) => ?_
    obtain ⟨d3, d4, e⟩ := ha t
    exact (congrFun e (win1_5.xinj (grid1.coords t) y)).trans (entry_eq m c h t d3 d4 y)
  · obtain ⟨t, y, rfl⟩ := covered i
    exact ⟨t, flush1_5 t, View.emb_mem_set _ y⟩

end Cert.EmbedMlp

end
-- ==== Proof.lean ====
/-
  THE CERTIFICATE: the frames of the kernel, of its idealized text and of the reference, and the equality of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.RefRun
public import proofs.«01_k».proof.Proof.Value

@[expose] public section

noncomputable section

namespace Cert.Proof

open Idealize.ShloMosaic Idealize.SL.Sem Cert.EmbedMlp

attribute [local instance] Cert.KernelIdeal.Gen.facts Cert.ReferenceIdeal.Gen.facts Cert.Pre_in_range.Gen.facts

/-- From memories that agree on the arguments, every index word naming a row of the table, the kernel's idealized text and the
    reference end with the same result, each with its arguments unchanged. -/
theorem same_result : Cert.algebraic_KernelIdeal_ReferenceIdeal := by
  intro m g m' g' hpre hargs
  have hw : ∀ (c : Dev Cert.KernelIdeal.nD) (i : Cert.KernelIdeal.S1024x20.Idx), (words m c i : BitVec 32).toNat < 100000 :=
    fun c => word_lt (F := Ideal) _ _ _ _ _ _ (hpre c)
  refine ⟨fun c => refOut m c, ?_, ?_⟩
  · exact (θ_run Cert.KernelIdeal.defs _ _).mono (fun r q c => ⟨result_eq m c (hw c) _ (q.1 c).2, (q.1 c).1⟩) (kernelIdeal_run m g hpre)
  · refine (θ_run Cert.ReferenceIdeal.defs _ _).mono (fun r q c => ⟨?_, (q c).2⟩) (Cert.ReferenceIdeal.Value.run (F := Ideal) m' g')
    obtain ⟨e0, e1, e2, e3, e4, e5⟩ := hargs c
    refine (q c).1.trans ((Cert.ReferenceIdeal.Read.val_main_v11_eq (F := Ideal) _ _ _ _ _ _).trans ?_)
    rw [e0, e1, e2, e3, e4, e5]

/-- Everything the certificate claims. -/
theorem claim : Cert.Claim :=
  ⟨Cert.Kernel.Gen.facts, Cert.KernelIdeal.Gen.facts, Cert.ReferenceIdeal.Gen.facts, Cert.Pre_in_range.Gen.facts,
    frame_kernel, frame_kernelIdeal, fun m g _ => reference_frame m g, fun m g _ => reference_frame m g, trivial, same_result⟩

end Cert.Proof

end
